-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mkv (m : (ℓ : Loc Cert.Mkv.nD Cert.Mkv.τ Cert.Mkv.sig) → Buf (Elt Bits) ℓ) : Prop :=
  True

def Pre_MkvIdeal (m : (ℓ : Loc Cert.MkvIdeal.nD Cert.MkvIdeal.τ Cert.MkvIdeal.sig) → Buf (Elt Ideal) ℓ) : Prop :=
  True

def Pre_MkvRefIdeal (m : (ℓ : Loc Cert.MkvRefIdeal.nD Cert.MkvRefIdeal.τ Cert.MkvRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_finite_mix [hPre_finite_mix : Cert.Pre_finite_mix.Facts] (m : (ℓ : Loc Cert.MixIdeal.nD Cert.MixIdeal.τ Cert.MixIdeal.sig) → Buf (Elt Ideal) ℓ) : Prop :=
  ∀ c : Dev Cert.MixIdeal.nD,
    (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.2.1 = (fun _ => 1#1)
    ∧ (Cert.Pre_finite_mix.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6)) (m ((c.tc : Thread Cert.MixIdeal.nD Cert.MixIdeal.τ).loc Cert.MixIdeal.main_arg7)) (m ((c.tc : Thread Cert.MixIdeal.nD Cert.MixIdeal.τ).loc Cert.MixIdeal.main_arg8)) (m ((c.tc : Thread Cert.MixIdeal.nD Cert.MixIdeal.τ).loc Cert.MixIdeal.main_arg9)) (m ((c.tc : Thread Cert.MixIdeal.nD Cert.MixIdeal.τ).loc Cert.MixIdeal.main_arg10)) (m ((c.tc : Thread Cert.MixIdeal.nD Cert.MixIdeal.τ).loc Cert.MixIdeal.main_arg11))).2.2.2.2.2.2 = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_finite_mix [hPre_finite_mix : Cert.Pre_finite_mix.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2.2.2.1 = (fun _ => 1#1)
    ∧ (Cert.Pre_finite_mix.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6)) (m ((c.tc : Thread Cert.MixRefIdeal.nD Cert.MixRefIdeal.τ).loc Cert.MixRefIdeal.main_arg7)) (m ((c.tc : Thread Cert.MixRefIdeal.nD Cert.MixRefIdeal.τ).loc Cert.MixRefIdeal.main_arg8)) (m ((c.tc : Thread Cert.MixRefIdeal.nD Cert.MixRefIdeal.τ).loc Cert.MixRefIdeal.main_arg9)) (m ((c.tc : Thread Cert.MixRefIdeal.nD Cert.MixRefIdeal.τ).loc Cert.MixRefIdeal.main_arg10)) (m ((c.tc : Thread Cert.MixRefIdeal.nD Cert.MixRefIdeal.τ).loc Cert.MixRefIdeal.main_arg11))).2.2.2.2.2.2 = (fun _ => 1#1)

def Pre_Ffs (m : (ℓ : Loc Cert.Ffs.nD Cert.Ffs.τ Cert.Ffs.sig) → Buf (Elt Bits) ℓ) : Prop :=
  True

def Pre_FfsIdeal (m : (ℓ : Loc Cert.FfsIdeal.nD Cert.FfsIdeal.τ Cert.FfsIdeal.sig) → Buf (Elt Ideal) ℓ) : Prop :=
  True

def Pre_FfsRefIdeal (m : (ℓ : Loc Cert.FfsRefIdeal.nD Cert.FfsRefIdeal.τ Cert.FfsRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Mkv [hMkv : Cert.Mkv.Facts] : Prop :=
  ∀ (m : (ℓ : Loc Cert.Mkv.nD Cert.Mkv.τ Cert.Mkv.sig) → Buf (Elt Bits) ℓ) (g : Dev Cert.Mkv.nD → PrngReg), Pre_Mkv m →
    θ_run (Cert.Mkv.defs (F := Bits)) (onTc (τ := Cert.Mkv.τ) (Cert.Mkv.main (F := Bits))) ⟨m, fun _ => 0, g⟩ (fun r => (∀ c : Dev Cert.Mkv.nD,
      r.2.mem ((c.tc : Thread Cert.Mkv.nD Cert.Mkv.τ).loc Cert.Mkv.main_arg0) = m ((c.tc : Thread Cert.Mkv.nD Cert.Mkv.τ).loc Cert.Mkv.main_arg0)
      ∧ r.2.mem ((c.tc : Thread Cert.Mkv.nD Cert.Mkv.τ).loc Cert.Mkv.main_arg1) = m ((c.tc : Thread Cert.Mkv.nD Cert.Mkv.τ).loc Cert.Mkv.main_arg1)
      ∧ r.2.mem ((c.tc : Thread Cert.Mkv.nD Cert.Mkv.τ).loc Cert.Mkv.main_arg2) = m ((c.tc : Thread Cert.Mkv.nD Cert.Mkv.τ).loc Cert.Mkv.main_arg2)
      ∧ r.2.mem ((c.tc : Thread Cert.Mkv.nD Cert.Mkv.τ).loc Cert.Mkv.main_arg3) = m ((c.tc : Thread Cert.Mkv.nD Cert.Mkv.τ).loc Cert.Mkv.main_arg3))
      ∧ r.2.sem = fun _ => 0)

def quiescent_MkvIdeal [hMkvIdeal : Cert.MkvIdeal.Facts] : Prop :=
  ∀ (m : (ℓ : Loc Cert.MkvIdeal.nD Cert.MkvIdeal.τ Cert.MkvIdeal.sig) → Buf (Elt Ideal) ℓ) (g : Dev Cert.MkvIdeal.nD → PrngReg), Pre_MkvIdeal m →
    θ_run (Cert.MkvIdeal.defs (F := Ideal)) (onTc (τ := Cert.MkvIdeal.τ) (Cert.MkvIdeal.main (F := Ideal))) ⟨m, fun _ => 0, g⟩ (fun r => (∀ c : Dev Cert.MkvIdeal.nD,
      r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
      ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
      ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2)
      ∧ r.2.mem ((c.tc : Thread Cert.MkvIdeal.nD Cert.MkvIdeal.τ).loc Cert.MkvIdeal.main_arg3) = m ((c.tc : Thread Cert.MkvIdeal.nD Cert.MkvIdeal.τ).loc Cert.MkvIdeal.main_arg3))
      ∧ r.2.sem = fun _ => 0)

def quiescent_MkvRefIdeal [hMkvRefIdeal : Cert.MkvRefIdeal.Facts] : Prop :=
  ∀ (m : (ℓ : Loc Cert.MkvRefIdeal.nD Cert.MkvRefIdeal.τ Cert.MkvRefIdeal.sig) → Buf (Elt Ideal) ℓ) (g : Dev Cert.MkvRefIdeal.nD → PrngReg), Pre_MkvRefIdeal m →
    θ_run (Cert.MkvRefIdeal.defs (F := Ideal)) (onTc (τ := Cert.MkvRefIdeal.τ) (Cert.MkvRefIdeal.main (F := Ideal))) ⟨m, fun _ => 0, g⟩ (fun r => (∀ c : Dev Cert.MkvRefIdeal.nD,
      r.2.mem ((c.tc : Thread Cert.MkvRefIdeal.nD Cert.MkvRefIdeal.τ).loc Cert.MkvRefIdeal.main_arg0) = m ((c.tc : Thread Cert.MkvRefIdeal.nD Cert.MkvRefIdeal.τ).loc Cert.MkvRefIdeal.main_arg0)
      ∧ r.2.mem ((c.tc : Thread Cert.MkvRefIdeal.nD Cert.MkvRefIdeal.τ).loc Cert.MkvRefIdeal.main_arg1) = m ((c.tc : Thread Cert.MkvRefIdeal.nD Cert.MkvRefIdeal.τ).loc Cert.MkvRefIdeal.main_arg1)
      ∧ r.2.mem ((c.tc : Thread Cert.MkvRefIdeal.nD Cert.MkvRefIdeal.τ).loc Cert.MkvRefIdeal.main_arg2) = m ((c.tc : Thread Cert.MkvRefIdeal.nD Cert.MkvRefIdeal.τ).loc Cert.MkvRefIdeal.main_arg2)
      ∧ r.2.mem ((c.tc : Thread Cert.MkvRefIdeal.nD Cert.MkvRefIdeal.τ).loc Cert.MkvRefIdeal.main_arg3) = m ((c.tc : Thread Cert.MkvRefIdeal.nD Cert.MkvRefIdeal.τ).loc Cert.MkvRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixIdeal_pre_finite_mix [hMixIdeal : Cert.MixIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg), Pre_MixIdeal_finite_mix m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_MixRefIdeal_pre_finite_mix [hMixRefIdeal : Cert.MixRefIdeal.Facts] [hPre_finite_mix : Cert.Pre_finite_mix.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_finite_mix m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_Ffs [hFfs : Cert.Ffs.Facts] : Prop :=
  ∀ (m : (ℓ : Loc Cert.Ffs.nD Cert.Ffs.τ Cert.Ffs.sig) → Buf (Elt Bits) ℓ) (g : Dev Cert.Ffs.nD → PrngReg), Pre_Ffs m →
    θ_run (Cert.Ffs.defs (F := Bits)) (onTc (τ := Cert.Ffs.τ) (Cert.Ffs.main (F := Bits))) ⟨m, fun _ => 0, g⟩ (fun r => (∀ c : Dev Cert.Ffs.nD,
      r.2.mem ((c.tc : Thread Cert.Ffs.nD Cert.Ffs.τ).loc Cert.Ffs.main_arg0) = m ((c.tc : Thread Cert.Ffs.nD Cert.Ffs.τ).loc Cert.Ffs.main_arg0)
      ∧ r.2.mem ((c.tc : Thread Cert.Ffs.nD Cert.Ffs.τ).loc Cert.Ffs.main_arg1) = m ((c.tc : Thread Cert.Ffs.nD Cert.Ffs.τ).loc Cert.Ffs.main_arg1)
      ∧ r.2.mem ((c.tc : Thread Cert.Ffs.nD Cert.Ffs.τ).loc Cert.Ffs.main_arg2) = m ((c.tc : Thread Cert.Ffs.nD Cert.Ffs.τ).loc Cert.Ffs.main_arg2)
      ∧ r.2.mem ((c.tc : Thread Cert.Ffs.nD Cert.Ffs.τ).loc Cert.Ffs.main_arg3) = m ((c.tc : Thread Cert.Ffs.nD Cert.Ffs.τ).loc Cert.Ffs.main_arg3)
      ∧ r.2.mem ((c.tc : Thread Cert.Ffs.nD Cert.Ffs.τ).loc Cert.Ffs.main_arg4) = m ((c.tc : Thread Cert.Ffs.nD Cert.Ffs.τ).loc Cert.Ffs.main_arg4)
      ∧ r.2.mem ((c.tc : Thread Cert.Ffs.nD Cert.Ffs.τ).loc Cert.Ffs.main_arg5) = m ((c.tc : Thread Cert.Ffs.nD Cert.Ffs.τ).loc Cert.Ffs.main_arg5))
      ∧ r.2.sem = fun _ => 0)

def quiescent_FfsIdeal [hFfsIdeal : Cert.FfsIdeal.Facts] : Prop :=
  ∀ (m : (ℓ : Loc Cert.FfsIdeal.nD Cert.FfsIdeal.τ Cert.FfsIdeal.sig) → Buf (Elt Ideal) ℓ) (g : Dev Cert.FfsIdeal.nD → PrngReg), Pre_FfsIdeal m →
    θ_run (Cert.FfsIdeal.defs (F := Ideal)) (onTc (τ := Cert.FfsIdeal.τ) (Cert.FfsIdeal.main (F := Ideal))) ⟨m, fun _ => 0, g⟩ (fun r => (∀ c : Dev Cert.FfsIdeal.nD,
      r.2.mem ((c.tc : Thread Cert.FfsIdeal.nD Cert.FfsIdeal.τ).loc Cert.FfsIdeal.main_arg0) = m ((c.tc : Thread Cert.FfsIdeal.nD Cert.FfsIdeal.τ).loc Cert.FfsIdeal.main_arg0)
      ∧ r.2.mem ((c.tc : Thread Cert.FfsIdeal.nD Cert.FfsIdeal.τ).loc Cert.FfsIdeal.main_arg1) = m ((c.tc : Thread Cert.FfsIdeal.nD Cert.FfsIdeal.τ).loc Cert.FfsIdeal.main_arg1)
      ∧ r.2.mem ((c.tc : Thread Cert.FfsIdeal.nD Cert.FfsIdeal.τ).loc Cert.FfsIdeal.main_arg2) = m ((c.tc : Thread Cert.FfsIdeal.nD Cert.FfsIdeal.τ).loc Cert.FfsIdeal.main_arg2)
      ∧ r.2.mem ((c.tc : Thread Cert.FfsIdeal.nD Cert.FfsIdeal.τ).loc Cert.FfsIdeal.main_arg3) = m ((c.tc : Thread Cert.FfsIdeal.nD Cert.FfsIdeal.τ).loc Cert.FfsIdeal.main_arg3)
      ∧ r.2.mem ((c.tc : Thread Cert.FfsIdeal.nD Cert.FfsIdeal.τ).loc Cert.FfsIdeal.main_arg4) = m ((c.tc : Thread Cert.FfsIdeal.nD Cert.FfsIdeal.τ).loc Cert.FfsIdeal.main_arg4)
      ∧ r.2.mem ((c.tc : Thread Cert.FfsIdeal.nD Cert.FfsIdeal.τ).loc Cert.FfsIdeal.main_arg5) = m ((c.tc : Thread Cert.FfsIdeal.nD Cert.FfsIdeal.τ).loc Cert.FfsIdeal.main_arg5))
      ∧ r.2.sem = fun _ => 0)

def quiescent_FfsRefIdeal [hFfsRefIdeal : Cert.FfsRefIdeal.Facts] : Prop :=
  ∀ (m : (ℓ : Loc Cert.FfsRefIdeal.nD Cert.FfsRefIdeal.τ Cert.FfsRefIdeal.sig) → Buf (Elt Ideal) ℓ) (g : Dev Cert.FfsRefIdeal.nD → PrngReg), Pre_FfsRefIdeal m →
    θ_run (Cert.FfsRefIdeal.defs (F := Ideal)) (onTc (τ := Cert.FfsRefIdeal.τ) (Cert.FfsRefIdeal.main (F := Ideal))) ⟨m, fun _ => 0, g⟩ (fun r => (∀ c : Dev Cert.FfsRefIdeal.nD,
      r.2.mem ((c.tc : Thread Cert.FfsRefIdeal.nD Cert.FfsRefIdeal.τ).loc Cert.FfsRefIdeal.main_arg0) = m ((c.tc : Thread Cert.FfsRefIdeal.nD Cert.FfsRefIdeal.τ).loc Cert.FfsRefIdeal.main_arg0)
      ∧ r.2.mem ((c.tc : Thread Cert.FfsRefIdeal.nD Cert.FfsRefIdeal.τ).loc Cert.FfsRefIdeal.main_arg1) = m ((c.tc : Thread Cert.FfsRefIdeal.nD Cert.FfsRefIdeal.τ).loc Cert.FfsRefIdeal.main_arg1)
      ∧ r.2.mem ((c.tc : Thread Cert.FfsRefIdeal.nD Cert.FfsRefIdeal.τ).loc Cert.FfsRefIdeal.main_arg2) = m ((c.tc : Thread Cert.FfsRefIdeal.nD Cert.FfsRefIdeal.τ).loc Cert.FfsRefIdeal.main_arg2)
      ∧ r.2.mem ((c.tc : Thread Cert.FfsRefIdeal.nD Cert.FfsRefIdeal.τ).loc Cert.FfsRefIdeal.main_arg3) = m ((c.tc : Thread Cert.FfsRefIdeal.nD Cert.FfsRefIdeal.τ).loc Cert.FfsRefIdeal.main_arg3)
      ∧ r.2.mem ((c.tc : Thread Cert.FfsRefIdeal.nD Cert.FfsRefIdeal.τ).loc Cert.FfsRefIdeal.main_arg4) = m ((c.tc : Thread Cert.FfsRefIdeal.nD Cert.FfsRefIdeal.τ).loc Cert.FfsRefIdeal.main_arg4)
      ∧ r.2.mem ((c.tc : Thread Cert.FfsRefIdeal.nD Cert.FfsRefIdeal.τ).loc Cert.FfsRefIdeal.main_arg5) = m ((c.tc : Thread Cert.FfsRefIdeal.nD Cert.FfsRefIdeal.τ).loc Cert.FfsRefIdeal.main_arg5))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v10)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v10) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v36) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Mkv_MkvIdeal : Prop :=
  True

def algebraic_MkvIdeal_MkvRefIdeal [hMkvIdeal : Cert.MkvIdeal.Facts] [hMkvRefIdeal : Cert.MkvRefIdeal.Facts] : Prop :=
  ∀ (m : (ℓ : Loc Cert.MkvIdeal.nD Cert.MkvIdeal.τ Cert.MkvIdeal.sig) → Buf (Elt Ideal) ℓ) (g : Dev Cert.MkvIdeal.nD → PrngReg)
    (m' : (ℓ : Loc Cert.MkvRefIdeal.nD Cert.MkvRefIdeal.τ Cert.MkvRefIdeal.sig) → Buf (Elt Ideal) ℓ) (g' : Dev Cert.MkvRefIdeal.nD → PrngReg), Pre_MkvIdeal m →
    (∀ c : Dev Cert.MkvIdeal.nD,
      m' ((c.tc : Thread Cert.MkvRefIdeal.nD Cert.MkvRefIdeal.τ).loc Cert.MkvRefIdeal.main_arg0) = m ((c.tc : Thread Cert.MkvIdeal.nD Cert.MkvIdeal.τ).loc Cert.MkvIdeal.main_arg0)
      ∧ m' ((c.tc : Thread Cert.MkvRefIdeal.nD Cert.MkvRefIdeal.τ).loc Cert.MkvRefIdeal.main_arg1) = m ((c.tc : Thread Cert.MkvIdeal.nD Cert.MkvIdeal.τ).loc Cert.MkvIdeal.main_arg1)
      ∧ m' ((c.tc : Thread Cert.MkvRefIdeal.nD Cert.MkvRefIdeal.τ).loc Cert.MkvRefIdeal.main_arg2) = m ((c.tc : Thread Cert.MkvIdeal.nD Cert.MkvIdeal.τ).loc Cert.MkvIdeal.main_arg2)
      ∧ m' ((c.tc : Thread Cert.MkvRefIdeal.nD Cert.MkvRefIdeal.τ).loc Cert.MkvRefIdeal.main_arg3) = m ((c.tc : Thread Cert.MkvIdeal.nD Cert.MkvIdeal.τ).loc Cert.MkvIdeal.main_arg3)) →
    ∃ (v0 : (c : Dev Cert.MkvIdeal.nD) → Buf (Elt Ideal) ((c.tc : Thread Cert.MkvIdeal.nD Cert.MkvIdeal.τ).loc Cert.MkvIdeal.main_v5_0)) (v1 : (c : Dev Cert.MkvIdeal.nD) → Buf (Elt Ideal) ((c.tc : Thread Cert.MkvIdeal.nD Cert.MkvIdeal.τ).loc Cert.MkvIdeal.main_v5_1)),
      θ_run (Cert.MkvIdeal.defs (F := Ideal)) (onTc (τ := Cert.MkvIdeal.τ) (Cert.MkvIdeal.main (F := Ideal))) ⟨m, fun _ => 0, g⟩ (fun r => ∀ c : Dev Cert.MkvIdeal.nD,
          r.2.mem ((c.tc : Thread Cert.MkvIdeal.nD Cert.MkvIdeal.τ).loc Cert.MkvIdeal.main_v5_0) = v0 c
          ∧ r.2.mem ((c.tc : Thread Cert.MkvIdeal.nD Cert.MkvIdeal.τ).loc Cert.MkvIdeal.main_v5_1) = v1 c
          ∧ r.2.mem ((c.tc : Thread Cert.MkvIdeal.nD Cert.MkvIdeal.τ).loc Cert.MkvIdeal.main_arg0) = m ((c.tc : Thread Cert.MkvIdeal.nD Cert.MkvIdeal.τ).loc Cert.MkvIdeal.main_arg0)
          ∧ r.2.mem ((c.tc : Thread Cert.MkvIdeal.nD Cert.MkvIdeal.τ).loc Cert.MkvIdeal.main_arg1) = m ((c.tc : Thread Cert.MkvIdeal.nD Cert.MkvIdeal.τ).loc Cert.MkvIdeal.main_arg1)
          ∧ r.2.mem ((c.tc : Thread Cert.MkvIdeal.nD Cert.MkvIdeal.τ).loc Cert.MkvIdeal.main_arg2) = m ((c.tc : Thread Cert.MkvIdeal.nD Cert.MkvIdeal.τ).loc Cert.MkvIdeal.main_arg2)
          ∧ r.2.mem ((c.tc : Thread Cert.MkvIdeal.nD Cert.MkvIdeal.τ).loc Cert.MkvIdeal.main_arg3) = m ((c.tc : Thread Cert.MkvIdeal.nD Cert.MkvIdeal.τ).loc Cert.MkvIdeal.main_arg3))
      ∧ θ_run (Cert.MkvRefIdeal.defs (F := Ideal)) (onTc (τ := Cert.MkvRefIdeal.τ) (Cert.MkvRefIdeal.main (F := Ideal))) ⟨m', fun _ => 0, g'⟩ (fun r => ∀ c : Dev Cert.MkvRefIdeal.nD,
          r.2.mem ((c.tc : Thread Cert.MkvRefIdeal.nD Cert.MkvRefIdeal.τ).loc Cert.MkvRefIdeal.main_v16) = v0 c
          ∧ r.2.mem ((c.tc : Thread Cert.MkvRefIdeal.nD Cert.MkvRefIdeal.τ).loc Cert.MkvRefIdeal.main_v19) = v1 c
          ∧ r.2.mem ((c.tc : Thread Cert.MkvRefIdeal.nD Cert.MkvRefIdeal.τ).loc Cert.MkvRefIdeal.main_arg0) = m' ((c.tc : Thread Cert.MkvRefIdeal.nD Cert.MkvRefIdeal.τ).loc Cert.MkvRefIdeal.main_arg0)
          ∧ r.2.mem ((c.tc : Thread Cert.MkvRefIdeal.nD Cert.MkvRefIdeal.τ).loc Cert.MkvRefIdeal.main_arg1) = m' ((c.tc : Thread Cert.MkvRefIdeal.nD Cert.MkvRefIdeal.τ).loc Cert.MkvRefIdeal.main_arg1)
          ∧ r.2.mem ((c.tc : Thread Cert.MkvRefIdeal.nD Cert.MkvRefIdeal.τ).loc Cert.MkvRefIdeal.main_arg2) = m' ((c.tc : Thread Cert.MkvRefIdeal.nD Cert.MkvRefIdeal.τ).loc Cert.MkvRefIdeal.main_arg2)
          ∧ r.2.mem ((c.tc : Thread Cert.MkvRefIdeal.nD Cert.MkvRefIdeal.τ).loc Cert.MkvRefIdeal.main_arg3) = m' ((c.tc : Thread Cert.MkvRefIdeal.nD Cert.MkvRefIdeal.τ).loc Cert.MkvRefIdeal.main_arg3))

def preserves_Mix_MixIdeal : Prop :=
  True

def algebraic_MixIdeal_MixRefIdeal_pre_finite_mix [hMixIdeal : Cert.MixIdeal.Facts] [hMixRefIdeal : Cert.MixRefIdeal.Facts] [hPre_finite_mix : Cert.Pre_finite_mix.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_finite_mix m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v22_0)) (v1 : (c : Dev Cert.MixIdeal.nD) → Buf (Elt Ideal) ((c.tc : Thread Cert.MixIdeal.nD Cert.MixIdeal.τ).loc Cert.MixIdeal.main_v22_1)) (v2 : (c : Dev Cert.MixIdeal.nD) → Buf (Elt Ideal) ((c.tc : Thread Cert.MixIdeal.nD Cert.MixIdeal.τ).loc Cert.MixIdeal.main_v22_2)) (v3 : (c : Dev Cert.MixIdeal.nD) → Buf (Elt Ideal) ((c.tc : Thread Cert.MixIdeal.nD Cert.MixIdeal.τ).loc Cert.MixIdeal.main_v22_3)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v22_0) = v0 c
          ∧ r.2.mem ((c.tc : Thread Cert.MixIdeal.nD Cert.MixIdeal.τ).loc Cert.MixIdeal.main_v22_1) = v1 c
          ∧ r.2.mem ((c.tc : Thread Cert.MixIdeal.nD Cert.MixIdeal.τ).loc Cert.MixIdeal.main_v22_2) = v2 c
          ∧ r.2.mem ((c.tc : Thread Cert.MixIdeal.nD Cert.MixIdeal.τ).loc Cert.MixIdeal.main_v22_3) = v3 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v41) = v0 c
          ∧ r.2.mem ((c.tc : Thread Cert.MixRefIdeal.nD Cert.MixRefIdeal.τ).loc Cert.MixRefIdeal.main_v43) = v1 c
          ∧ r.2.mem ((c.tc : Thread Cert.MixRefIdeal.nD Cert.MixRefIdeal.τ).loc Cert.MixRefIdeal.main_v45) = v2 c
          ∧ r.2.mem ((c.tc : Thread Cert.MixRefIdeal.nD Cert.MixRefIdeal.τ).loc Cert.MixRefIdeal.main_v47) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_Ffs_FfsIdeal : Prop :=
  True

def algebraic_FfsIdeal_FfsRefIdeal [hFfsIdeal : Cert.FfsIdeal.Facts] [hFfsRefIdeal : Cert.FfsRefIdeal.Facts] : Prop :=
  ∀ (m : (ℓ : Loc Cert.FfsIdeal.nD Cert.FfsIdeal.τ Cert.FfsIdeal.sig) → Buf (Elt Ideal) ℓ) (g : Dev Cert.FfsIdeal.nD → PrngReg)
    (m' : (ℓ : Loc Cert.FfsRefIdeal.nD Cert.FfsRefIdeal.τ Cert.FfsRefIdeal.sig) → Buf (Elt Ideal) ℓ) (g' : Dev Cert.FfsRefIdeal.nD → PrngReg), Pre_FfsIdeal m →
    (∀ c : Dev Cert.FfsIdeal.nD,
      m' ((c.tc : Thread Cert.FfsRefIdeal.nD Cert.FfsRefIdeal.τ).loc Cert.FfsRefIdeal.main_arg0) = m ((c.tc : Thread Cert.FfsIdeal.nD Cert.FfsIdeal.τ).loc Cert.FfsIdeal.main_arg0)
      ∧ m' ((c.tc : Thread Cert.FfsRefIdeal.nD Cert.FfsRefIdeal.τ).loc Cert.FfsRefIdeal.main_arg1) = m ((c.tc : Thread Cert.FfsIdeal.nD Cert.FfsIdeal.τ).loc Cert.FfsIdeal.main_arg1)
      ∧ m' ((c.tc : Thread Cert.FfsRefIdeal.nD Cert.FfsRefIdeal.τ).loc Cert.FfsRefIdeal.main_arg2) = m ((c.tc : Thread Cert.FfsIdeal.nD Cert.FfsIdeal.τ).loc Cert.FfsIdeal.main_arg2)
      ∧ m' ((c.tc : Thread Cert.FfsRefIdeal.nD Cert.FfsRefIdeal.τ).loc Cert.FfsRefIdeal.main_arg3) = m ((c.tc : Thread Cert.FfsIdeal.nD Cert.FfsIdeal.τ).loc Cert.FfsIdeal.main_arg3)
      ∧ m' ((c.tc : Thread Cert.FfsRefIdeal.nD Cert.FfsRefIdeal.τ).loc Cert.FfsRefIdeal.main_arg4) = m ((c.tc : Thread Cert.FfsIdeal.nD Cert.FfsIdeal.τ).loc Cert.FfsIdeal.main_arg4)
      ∧ m' ((c.tc : Thread Cert.FfsRefIdeal.nD Cert.FfsRefIdeal.τ).loc Cert.FfsRefIdeal.main_arg5) = m ((c.tc : Thread Cert.FfsIdeal.nD Cert.FfsIdeal.τ).loc Cert.FfsIdeal.main_arg5)) →
    ∃ (v0 : (c : Dev Cert.FfsIdeal.nD) → Buf (Elt Ideal) ((c.tc : Thread Cert.FfsIdeal.nD Cert.FfsIdeal.τ).loc Cert.FfsIdeal.main_v10)),
      θ_run (Cert.FfsIdeal.defs (F := Ideal)) (onTc (τ := Cert.FfsIdeal.τ) (Cert.FfsIdeal.main (F := Ideal))) ⟨m, fun _ => 0, g⟩ (fun r => ∀ c : Dev Cert.FfsIdeal.nD,
          r.2.mem ((c.tc : Thread Cert.FfsIdeal.nD Cert.FfsIdeal.τ).loc Cert.FfsIdeal.main_v10) = v0 c
          ∧ r.2.mem ((c.tc : Thread Cert.FfsIdeal.nD Cert.FfsIdeal.τ).loc Cert.FfsIdeal.main_arg0) = m ((c.tc : Thread Cert.FfsIdeal.nD Cert.FfsIdeal.τ).loc Cert.FfsIdeal.main_arg0)
          ∧ r.2.mem ((c.tc : Thread Cert.FfsIdeal.nD Cert.FfsIdeal.τ).loc Cert.FfsIdeal.main_arg1) = m ((c.tc : Thread Cert.FfsIdeal.nD Cert.FfsIdeal.τ).loc Cert.FfsIdeal.main_arg1)
          ∧ r.2.mem ((c.tc : Thread Cert.FfsIdeal.nD Cert.FfsIdeal.τ).loc Cert.FfsIdeal.main_arg2) = m ((c.tc : Thread Cert.FfsIdeal.nD Cert.FfsIdeal.τ).loc Cert.FfsIdeal.main_arg2)
          ∧ r.2.mem ((c.tc : Thread Cert.FfsIdeal.nD Cert.FfsIdeal.τ).loc Cert.FfsIdeal.main_arg3) = m ((c.tc : Thread Cert.FfsIdeal.nD Cert.FfsIdeal.τ).loc Cert.FfsIdeal.main_arg3)
          ∧ r.2.mem ((c.tc : Thread Cert.FfsIdeal.nD Cert.FfsIdeal.τ).loc Cert.FfsIdeal.main_arg4) = m ((c.tc : Thread Cert.FfsIdeal.nD Cert.FfsIdeal.τ).loc Cert.FfsIdeal.main_arg4)
          ∧ r.2.mem ((c.tc : Thread Cert.FfsIdeal.nD Cert.FfsIdeal.τ).loc Cert.FfsIdeal.main_arg5) = m ((c.tc : Thread Cert.FfsIdeal.nD Cert.FfsIdeal.τ).loc Cert.FfsIdeal.main_arg5))
      ∧ θ_run (Cert.FfsRefIdeal.defs (F := Ideal)) (onTc (τ := Cert.FfsRefIdeal.τ) (Cert.FfsRefIdeal.main (F := Ideal))) ⟨m', fun _ => 0, g'⟩ (fun r => ∀ c : Dev Cert.FfsRefIdeal.nD,
          r.2.mem ((c.tc : Thread Cert.FfsRefIdeal.nD Cert.FfsRefIdeal.τ).loc Cert.FfsRefIdeal.main_v36) = v0 c
          ∧ r.2.mem ((c.tc : Thread Cert.FfsRefIdeal.nD Cert.FfsRefIdeal.τ).loc Cert.FfsRefIdeal.main_arg0) = m' ((c.tc : Thread Cert.FfsRefIdeal.nD Cert.FfsRefIdeal.τ).loc Cert.FfsRefIdeal.main_arg0)
          ∧ r.2.mem ((c.tc : Thread Cert.FfsRefIdeal.nD Cert.FfsRefIdeal.τ).loc Cert.FfsRefIdeal.main_arg1) = m' ((c.tc : Thread Cert.FfsRefIdeal.nD Cert.FfsRefIdeal.τ).loc Cert.FfsRefIdeal.main_arg1)
          ∧ r.2.mem ((c.tc : Thread Cert.FfsRefIdeal.nD Cert.FfsRefIdeal.τ).loc Cert.FfsRefIdeal.main_arg2) = m' ((c.tc : Thread Cert.FfsRefIdeal.nD Cert.FfsRefIdeal.τ).loc Cert.FfsRefIdeal.main_arg2)
          ∧ r.2.mem ((c.tc : Thread Cert.FfsRefIdeal.nD Cert.FfsRefIdeal.τ).loc Cert.FfsRefIdeal.main_arg3) = m' ((c.tc : Thread Cert.FfsRefIdeal.nD Cert.FfsRefIdeal.τ).loc Cert.FfsRefIdeal.main_arg3)
          ∧ r.2.mem ((c.tc : Thread Cert.FfsRefIdeal.nD Cert.FfsRefIdeal.τ).loc Cert.FfsRefIdeal.main_arg4) = m' ((c.tc : Thread Cert.FfsRefIdeal.nD Cert.FfsRefIdeal.τ).loc Cert.FfsRefIdeal.main_arg4)
          ∧ r.2.mem ((c.tc : Thread Cert.FfsRefIdeal.nD Cert.FfsRefIdeal.τ).loc Cert.FfsRefIdeal.main_arg5) = m' ((c.tc : Thread Cert.FfsRefIdeal.nD Cert.FfsRefIdeal.τ).loc Cert.FfsRefIdeal.main_arg5))

def Claim : Prop :=
  ∃ (hFfn : Cert.Ffn.Facts) (hFfnIdeal : Cert.FfnIdeal.Facts) (hFfnRefIdeal : Cert.FfnRefIdeal.Facts) (hMkv : Cert.Mkv.Facts) (hMkvIdeal : Cert.MkvIdeal.Facts) (hMkvRefIdeal : Cert.MkvRefIdeal.Facts) (hMix : Cert.Mix.Facts) (hMixIdeal : Cert.MixIdeal.Facts) (hMixRefIdeal : Cert.MixRefIdeal.Facts) (hFfs : Cert.Ffs.Facts) (hFfsIdeal : Cert.FfsIdeal.Facts) (hFfsRefIdeal : Cert.FfsRefIdeal.Facts) (hPre_finite_mix : Cert.Pre_finite_mix.Facts),
    quiescent_Ffn (hFfn := hFfn)
    ∧ quiescent_FfnIdeal (hFfnIdeal := hFfnIdeal)
    ∧ quiescent_FfnRefIdeal (hFfnRefIdeal := hFfnRefIdeal)
    ∧ quiescent_Mkv (hMkv := hMkv)
    ∧ quiescent_MkvIdeal (hMkvIdeal := hMkvIdeal)
    ∧ quiescent_MkvRefIdeal (hMkvRefIdeal := hMkvRefIdeal)
    ∧ quiescent_Mix (hMix := hMix)
    ∧ quiescent_MixIdeal (hMixIdeal := hMixIdeal)
    ∧ quiescent_MixIdeal_pre_finite_mix (hMixIdeal := hMixIdeal) (hPre_finite_mix := hPre_finite_mix)
    ∧ quiescent_MixRefIdeal (hMixRefIdeal := hMixRefIdeal)
    ∧ quiescent_MixRefIdeal_pre_finite_mix (hMixRefIdeal := hMixRefIdeal) (hPre_finite_mix := hPre_finite_mix)
    ∧ quiescent_Ffs (hFfs := hFfs)
    ∧ quiescent_FfsIdeal (hFfsIdeal := hFfsIdeal)
    ∧ quiescent_FfsRefIdeal (hFfsRefIdeal := hFfsRefIdeal)
    ∧ preserves_Ffn_FfnIdeal
    ∧ algebraic_FfnIdeal_FfnRefIdeal (hFfnIdeal := hFfnIdeal) (hFfnRefIdeal := hFfnRefIdeal)
    ∧ preserves_Mkv_MkvIdeal
    ∧ algebraic_MkvIdeal_MkvRefIdeal (hMkvIdeal := hMkvIdeal) (hMkvRefIdeal := hMkvRefIdeal)
    ∧ preserves_Mix_MixIdeal
    ∧ algebraic_MixIdeal_MixRefIdeal_pre_finite_mix (hMixIdeal := hMixIdeal) (hMixRefIdeal := hMixRefIdeal) (hPre_finite_mix := hPre_finite_mix)
    ∧ preserves_Ffs_FfsIdeal
    ∧ algebraic_FfsIdeal_FfsRefIdeal (hFfsIdeal := hFfsIdeal) (hFfsRefIdeal := hFfsRefIdeal)
-- ==== Pre_finite_mix.lean ====
abbrev S4x4096x2048 : Shape := ⟨3, ![4, 4096, 2048]⟩
abbrev S4x4096x1024 : Shape := ⟨3, ![4, 4096, 1024]⟩
abbrev S1x2048x2048 : Shape := ⟨3, ![1, 2048, 2048]⟩
abbrev S1x2048 : Shape := ⟨2, ![1, 2048]⟩
abbrev S1x2048x512 : Shape := ⟨3, ![1, 2048, 512]⟩
abbrev S1x512x2048 : Shape := ⟨3, ![1, 512, 2048]⟩
abbrev S4x256x4x128 : Shape := ⟨4, ![4, 256, 4, 128]⟩
abbrev S1x2048x5632 : Shape := ⟨3, ![1, 2048, 5632]⟩
abbrev S1x5632x2048 : Shape := ⟨3, ![1, 5632, 2048]⟩
abbrev S_ : Shape := ⟨0, ![]⟩

class Facts : Prop where
  bcast_S_S4x4096x2048 : S_.BroadcastsInDim S4x4096x2048 (![] : Fin 0 → Fin S4x4096x2048.rank)
  bcast_S_S4x4096x1024 : S_.BroadcastsInDim S4x4096x1024 (![] : Fin 0 → Fin S4x4096x1024.rank)
  bcast_S_S1x2048x2048 : S_.BroadcastsInDim S1x2048x2048 (![] : Fin 0 → Fin S1x2048x2048.rank)
  bcast_S_S1x2048 : S_.BroadcastsInDim S1x2048 (![] : Fin 0 → Fin S1x2048.rank)
  bcast_S_S1x2048x512 : S_.BroadcastsInDim S1x2048x512 (![] : Fin 0 → Fin S1x2048x512.rank)
  bcast_S_S4x256x4x128 : S_.BroadcastsInDim S4x256x4x128 (![] : Fin 0 → Fin S4x256x4x128.rank)

variable [Facts]

def fn_part2 {F : FTy → Type} [FloatOps F] (main_v4 : IVec S4x4096x2048 1) (main_v9 : IVec S4x4096x1024 1) (main_v14 : IVec S4x4096x1024 1) (main_v19 : IVec S1x2048x2048 1) (main_v24 : IVec S1x2048 1) (main_v29 : IVec S1x2048x512 1) (main_v31 : IVec S4x256x4x128 1) (main_v33 : IVec S4x256x4x128 1) : IVec S4x4096x2048 1 × IVec S4x4096x1024 1 × IVec S4x4096x1024 1 × IVec S1x2048x2048 1 × IVec S1x2048 1 × IVec S1x2048x512 1 × IVec S4x256x4x128 1 :=
  let main_v34 : IVec S4x256x4x128 1 := andi main_v31 main_v33
  (main_v4, main_v9, main_v14, main_v19, main_v24, main_v29, main_v34)

def fn_part1 {F : FTy → Type} [FloatOps F] (main_arg3 : FVec F S1x2048x2048 .f32) (main_arg4 : FVec F S1x2048 .f32) (main_arg5 : FVec F S1x2048x512 .f32) (main_arg7 : FVec F S4x256x4x128 .f32) (main_v4 : IVec S4x4096x2048 1) (main_v9 : IVec S4x4096x1024 1) (main_v14 : IVec S4x4096x1024 1) (main_v16 : IVec S1x2048x2048 1) : IVec S4x4096x2048 1 × IVec S4x4096x1024 1 × IVec S4x4096x1024 1 × IVec S1x2048x2048 1 × IVec S1x2048 1 × IVec S1x2048x512 1 × IVec S4x256x4x128 1 :=
  let main_cst_6 : FVec F S_ .f32 := constant S_ .f32 0x7F800000#32
  let main_v17 : FVec F S1x2048x2048 .f32 := broadcastInDim S1x2048x2048 ![] bcast_S_S1x2048x2048 main_cst_6
  let main_v18 : IVec S1x2048x2048 1 := cmpf .olt main_arg3 main_v17
  let main_v19 : IVec S1x2048x2048 1 := andi main_v16 main_v18
  let main_cst_7 : FVec F S_ .f32 := constant S_ .f32 0xFF800000#32
  let main_v20 : FVec F S1x2048 .f32 := broadcastInDim S1x2048 ![] bcast_S_S1x2048 main_cst_7
  let main_v21 : IVec S1x2048 1 := cmpf .ogt main_arg4 main_v20
  let main_cst_8 : FVec F S_ .f32 := constant S_ .f32 0x7F800000#32
  let main_v22 : FVec F S1x2048 .f32 := broadcastInDim S1x2048 ![] bcast_S_S1x2048 main_cst_8
  let main_v23 : IVec S1x2048 1 := cmpf .olt main_arg4 main_v22
  let main_v24 : IVec S1x2048 1 := andi main_v21 main_v23
  let main_cst_9 : FVec F S_ .f32 := constant S_ .f32 0xFF800000#32
  let main_v25 : FVec F S1x2048x512 .f32 := broadcastInDim S1x2048x512 ![] bcast_S_S1x2048x512 main_cst_9
  let main_v26 : IVec S1x2048x512 1 := cmpf .ogt main_arg5 main_v25
  let main_cst_10 : FVec F S_ .f32 := constant S_ .f32 0x7F800000#32
  let main_v27 : FVec F S1x2048x512 .f32 := broadcastInDim S1x2048x512 ![] bcast_S_S1x2048x512 main_cst_10
  let main_v28 : IVec S1x2048x512 1 := cmpf .olt main_arg5 main_v27
  let main_v29 : IVec S1x2048x512 1 := andi main_v26 main_v28
  let main_cst_11 : FVec F S_ .f32 := constant S_ .f32 0xFF800000#32
  let main_v30 : FVec F S4x256x4x128 .f32 := broadcastInDim S4x256x4x128 ![] bcast_S_S4x256x4x128 main_cst_11
  let main_v31 : IVec S4x256x4x128 1 := cmpf .ogt main_arg7 main_v30
  let main_cst_12 : FVec F S_ .f32 := constant S_ .f32 0x7F800000#32
  let main_v32 : FVec F S4x256x4x128 .f32 := broadcastInDim S4x256x4x128 ![] bcast_S_S4x256x4x128 main_cst_12
  let main_v33 : IVec S4x256x4x128 1 := cmpf .olt main_arg7 main_v32
  fn_part2 (F := F) main_v4 main_v9 main_v14 main_v19 main_v24 main_v29 main_v31 main_v33

def fn {F : FTy → Type} [FloatOps F] (main_arg0 : FVec F S4x4096x2048 .f32) (main_arg1 : FVec F S4x4096x1024 .f32) (main_arg2 : FVec F S4x4096x1024 .f32) (main_arg3 : FVec F S1x2048x2048 .f32) (main_arg4 : FVec F S1x2048 .f32) (main_arg5 : FVec F S1x2048x512 .f32) (main_arg6 : FVec F S1x512x2048 .f32) (main_arg7 : FVec F S4x256x4x128 .f32) (main_arg8 : FVec F S4x256x4x128 .f32) (main_arg9 : FVec F S1x2048x5632 .f32) (main_arg10 : FVec F S1x2048x5632 .f32) (main_arg11 : FVec F S1x5632x2048 .f32) : IVec S4x4096x2048 1 × IVec S4x4096x1024 1 × IVec S4x4096x1024 1 × IVec S1x2048x2048 1 × IVec S1x2048 1 × IVec S1x2048x512 1 × IVec S4x256x4x128 1 :=
  let main_cst : FVec F S_ .f32 := constant S_ .f32 0xFF800000#32
  let main_v0 : FVec F S4x4096x2048 .f32 := broadcastInDim S4x4096x2048 ![] bcast_S_S4x4096x2048 main_cst
  let main_v1 : IVec S4x4096x2048 1 := cmpf .ogt main_arg0 main_v0
  let main_cst_0 : FVec F S_ .f32 := constant S_ .f32 0x7F800000#32
  let main_v2 : FVec F S4x4096x2048 .f32 := broadcastInDim S4x4096x2048 ![] bcast_S_S4x4096x2048 main_cst_0
  let main_v3 : IVec S4x4096x2048 1 := cmpf .olt main_arg0 main_v2
  let main_v4 : IVec S4x4096x2048 1 := andi main_v1 main_v3
  let main_cst_1 : FVec F S_ .f32 := constant S_ .f32 0xFF800000#32
  let main_v5 : FVec F S4x4096x1024 .f32 := broadcastInDim S4x4096x1024 ![] bcast_S_S4x4096x1024 main_cst_1
  let main_v6 : IVec S4x4096x1024 1 := cmpf .ogt main_arg1 main_v5
  let main_cst_2 : FVec F S_ .f32 := constant S_ .f32 0x7F800000#32
  let main_v7 : FVec F S4x4096x1024 .f32 := broadcastInDim S4x4096x1024 ![] bcast_S_S4x4096x1024 main_cst_2
  let main_v8 : IVec S4x4096x1024 1 := cmpf .olt main_arg1 main_v7
  let main_v9 : IVec S4x4096x1024 1 := andi main_v6 main_v8
  let main_cst_3 : FVec F S_ .f32 := constant S_ .f32 0xFF800000#32
  let main_v10 : FVec F S4x4096x1024 .f32 := broadcastInDim S4x4096x1024 ![] bcast_S_S4x4096x1024 main_cst_3
  let main_v11 : IVec S4x4096x1024 1 := cmpf .ogt main_arg2 main_v10
  let main_cst_4 : FVec F S_ .f32 := constant S_ .f32 0x7F800000#32
  let main_v12 : FVec F S4x4096x1024 .f32 := broadcastInDim S4x4096x1024 ![] bcast_S_S4x4096x1024 main_cst_4
  let main_v13 : IVec S4x4096x1024 1 := cmpf .olt main_arg2 main_v12
  let main_v14 : IVec S4x4096x1024 1 := andi main_v11 main_v13
  let main_cst_5 : FVec F S_ .f32 := constant S_ .f32 0xFF800000#32
  let main_v15 : FVec F S1x2048x2048 .f32 := broadcastInDim S1x2048x2048 ![] bcast_S_S1x2048x2048 main_cst_5
  let main_v16 : IVec S1x2048x2048 1 := cmpf .ogt main_arg3 main_v15
  fn_part1 (F := F) main_arg3 main_arg4 main_arg5 main_arg7 main_v4 main_v9 main_v14 main_v16
-- ==== Ffn.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S16384x2048 : Shape := ⟨2, ![16384, 2048]⟩
abbrev S2048x5632 : Shape := ⟨2, ![2048, 5632]⟩
abbrev S5632x2048 : Shape := ⟨2, ![5632, 2048]⟩
abbrev S1024x2048 : Shape := ⟨2, ![1024, 2048]⟩
abbrev S2048x512 : Shape := ⟨2, ![2048, 512]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S1024x512 : Shape := ⟨2, ![1024, 512]⟩

abbrev nBuf : Space → Nat
  | .hbm => 17
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S16384x2048, .f32⟩
  | .hbm, ⟨7, _⟩ => ⟨S2048, .f32⟩
  | .hbm, ⟨8, _⟩ => ⟨S1x2048, .f32⟩
  | .hbm, ⟨9, _⟩ => ⟨S2048x5632, .f32⟩
  | .hbm, ⟨10, _⟩ => ⟨S2048x5632, .bf16⟩
  | .hbm, ⟨11, _⟩ => ⟨S2048x5632, .f32⟩
  | .hbm, ⟨12, _⟩ => ⟨S2048x5632, .bf16⟩
  | .hbm, ⟨13, _⟩ => ⟨S5632x2048, .f32⟩
  | .hbm, ⟨14, _⟩ => ⟨S5632x2048, .bf16⟩
  | .hbm, ⟨15, _⟩ => ⟨S1x2048, .f32⟩
  | .hbm, ⟨16, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S4x4096x2048 : Shape := ⟨3, ![4, 4096, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x5632 : Shape := ⟨2, ![2048, 5632]⟩
abbrev S5632x2048 : Shape := ⟨2, ![5632, 2048]⟩
abbrev S4x4096x5632 : Shape := ⟨3, ![4, 4096, 5632]⟩
abbrev S16384x2048 : Shape := ⟨2, ![16384, 2048]⟩

abbrev nBuf : Space → Nat
  | .hbm => 57
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S4x4096x5632, .f32⟩
  | .hbm, ⟨27, _⟩ => ⟨S4x4096x5632, .f32⟩
  | .hbm, ⟨28, _⟩ => ⟨S4x4096x5632, .f32⟩
  | .hbm, ⟨29, _⟩ => ⟨S_, .f32⟩
  | .hbm, ⟨30, _⟩ => ⟨S4x4096x5632, .f32⟩
  | .hbm, ⟨31, _⟩ => ⟨S4x4096x5632, .f32⟩
  | .hbm, ⟨32, _⟩ => ⟨S_, .f32⟩
  | .hbm, ⟨33, _⟩ => ⟨S4x4096x5632, .f32⟩
  | .hbm, ⟨34, _⟩ => ⟨S4x4096x5632, .f32⟩
  | .hbm, ⟨35, _⟩ => ⟨S4x4096x5632, .f32⟩
  | .hbm, ⟨36, _⟩ => ⟨S4x4096x5632, .f32⟩
  | .hbm, ⟨37, _⟩ => ⟨S4x4096x5632, .f32⟩
  | .hbm, ⟨38, _⟩ => ⟨S4x4096x2048, .f32⟩
  | .hbm, ⟨39, _⟩ => ⟨S4x4096x2048, .f32⟩
  | .hbm, ⟨40, _⟩ => ⟨S4x4096x2048, .f32⟩
  | .hbm, ⟨41, _⟩ => ⟨S_, .f32⟩
  | .hbm, ⟨42, _⟩ => ⟨S4x4096, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S_, .f32⟩
  | .hbm, ⟨48, _⟩ => ⟨S4x4096x1, .f32⟩
  | .hbm, ⟨49, _⟩ => ⟨S4x4096x1, .f32⟩
  | .hbm, ⟨50, _⟩ => ⟨S4x4096x1, .f32⟩
  | .hbm, ⟨51, _⟩ => ⟨S4x4096x2048, .f32⟩
  | .hbm, ⟨52, _⟩ => ⟨S4x4096x2048, .f32⟩
  | .hbm, ⟨53, _⟩ => ⟨S1x1x2048, .f32⟩
  | .hbm, ⟨54, _⟩ => ⟨S4x4096x2048, .f32⟩
  | .hbm, ⟨55, _⟩ => ⟨S4x4096x2048, .f32⟩
  | .hbm, ⟨56, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Mkv.lean ====
abbrev S4x256x2048 : Shape := ⟨3, ![4, 256, 2048]⟩
abbrev S1x2048 : Shape := ⟨2, ![1, 2048]⟩
abbrev S1x2048x512 : Shape := ⟨3, ![1, 2048, 512]⟩
abbrev S2048 : Shape := ⟨1, ![2048]⟩
abbrev S1024x2048 : Shape := ⟨2, ![1024, 2048]⟩
abbrev S2048x512 : Shape := ⟨2, ![2048, 512]⟩
abbrev S1024x512 : Shape := ⟨2, ![1024, 512]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S2048, .f32⟩
  | .hbm, ⟨5, _⟩ => ⟨S1x2048, .f32⟩
  | .hbm, ⟨6, _⟩ => ⟨S1024x2048, .f32⟩
  | .hbm, ⟨7, _⟩ => ⟨S2048x512, .f32⟩
  | .hbm, ⟨8, _⟩ => ⟨S2048x512, .f32⟩
  | .hbm, ⟨9, _⟩ => ⟨S1024x512, .f32⟩
  | .hbm, ⟨10, _⟩ => ⟨S1024x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MkvRefIdeal.lean ====
abbrev S4x256x2048 : Shape := ⟨3, ![4, 256, 2048]⟩
abbrev S1x2048 : Shape := ⟨2, ![1, 2048]⟩
abbrev S1x2048x512 : Shape := ⟨3, ![1, 2048, 512]⟩
abbrev S2048 : Shape := ⟨1, ![2048]⟩
abbrev S_ : Shape := ⟨0, ![]⟩
abbrev S4x256 : Shape := ⟨2, ![4, 256]⟩
abbrev S4x256x1 : Shape := ⟨3, ![4, 256, 1]⟩
abbrev S1x1x2048 : Shape := ⟨3, ![1, 1, 2048]⟩
abbrev S2048x512 : Shape := ⟨2, ![2048, 512]⟩
abbrev S4x256x512 : Shape := ⟨3, ![4, 256, 512]⟩
abbrev S1024x512 : Shape := ⟨2, ![1024, 512]⟩

abbrev nBuf : Space → Nat
  | .hbm => 27
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S1x2048, .f32⟩
  | .hbm, ⟨2, _⟩ => ⟨S1x2048x512, .f32⟩
  | .hbm, ⟨3, _⟩ => ⟨S1x2048x512, .f32⟩
  | .hbm, ⟨4, _⟩ => ⟨S2048, .f32⟩
  | .hbm, ⟨5, _⟩ => ⟨S4x256x2048, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x2048, .f32⟩
  | .hbm, ⟨17, _⟩ => ⟨S4x256x2048, .f32⟩
  | .hbm, ⟨18, _⟩ => ⟨S1x1x2048, .f32⟩
  | .hbm, ⟨19, _⟩ => ⟨S4x256x2048, .f32⟩
  | .hbm, ⟨20, _⟩ => ⟨S4x256x2048, .f32⟩
  | .hbm, ⟨21, _⟩ => ⟨S2048x512, .f32⟩
  | .hbm, ⟨22, _⟩ => ⟨S4x256x512, .f32⟩
  | .hbm, ⟨23, _⟩ => ⟨S1024x512, .f32⟩
  | .hbm, ⟨24, _⟩ => ⟨S2048x512, .f32⟩
  | .hbm, ⟨25, _⟩ => ⟨S4x256x512, .f32⟩
  | .hbm, ⟨26, _⟩ => ⟨S1024x512, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Mix.lean ====
abbrev S4x4096x2048 : Shape := ⟨3, ![4, 4096, 2048]⟩
abbrev S4x4096x1024 : Shape := ⟨3, ![4, 4096, 1024]⟩
abbrev S1x2048x2048 : Shape := ⟨3, ![1, 2048, 2048]⟩
abbrev S1x2048 : Shape := ⟨2, ![1, 2048]⟩
abbrev S1x2048x512 : Shape := ⟨3, ![1, 2048, 512]⟩
abbrev S1x512x2048 : Shape := ⟨3, ![1, 512, 2048]⟩
abbrev S4x256x4x128 : Shape := ⟨4, ![4, 256, 4, 128]⟩
abbrev S1x2048x5632 : Shape := ⟨3, ![1, 2048, 5632]⟩
abbrev S1x5632x2048 : Shape := ⟨3, ![1, 5632, 2048]⟩
abbrev S16384x2048 : Shape := ⟨2, ![16384, 2048]⟩
abbrev S16384x1024 : Shape := ⟨2, ![16384, 1024]⟩
abbrev S1x1024x2048 : Shape := ⟨3, ![1, 1024, 2048]⟩
abbrev S1024x2048 : Shape := ⟨2, ![1024, 2048]⟩
abbrev S2048 : Shape := ⟨1, ![2048]⟩
abbrev S2048x512 : Shape := ⟨2, ![2048, 512]⟩
abbrev S512x2048 : Shape := ⟨2, ![512, 2048]⟩
abbrev S4x256x512 : Shape := ⟨3, ![4, 256, 512]⟩
abbrev S2048x5632 : Shape := ⟨2, ![2048, 5632]⟩
abbrev S5632x2048 : Shape := ⟨2, ![5632, 2048]⟩
abbrev S512x1024 : Shape := ⟨2, ![512, 1024]⟩
abbrev S1x256x512 : Shape := ⟨3, ![1, 256, 512]⟩
abbrev S64x5632 : Shape := ⟨2, ![64, 5632]⟩
abbrev S176x2048 : Shape := ⟨2, ![176, 2048]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S256x256 : Shape := ⟨2, ![256, 256]⟩

abbrev nBuf : Space → Nat
  | .hbm => 38
  | .vmem => 29
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S1x2048x2048, .f32⟩
  | .hbm, ⟨4, _⟩ => ⟨S1x2048, .f32⟩
  | .hbm, ⟨5, _⟩ => ⟨S1x2048x512, .f32⟩
  | .hbm, ⟨6, _⟩ => ⟨S1x512x2048, .f32⟩
  | .hbm, ⟨7, _⟩ => ⟨S4x256x4x128, .f32⟩
  | .hbm, ⟨8, _⟩ => ⟨S4x256x4x128, .f32⟩
  | .hbm, ⟨9, _⟩ => ⟨S1x2048x5632, .f32⟩
  | .hbm, ⟨10, _⟩ => ⟨S1x2048x5632, .f32⟩
  | .hbm, ⟨11, _⟩ => ⟨S1x5632x2048, .f32⟩
  | .hbm, ⟨12, _⟩ => ⟨S16384x2048, .f32⟩
  | .hbm, ⟨13, _⟩ => ⟨S16384x1024, .f32⟩
  | .hbm, ⟨14, _⟩ => ⟨S16384x1024, .bf16⟩
  | .hbm, ⟨15, _⟩ => ⟨S16384x1024, .f32⟩
  | .hbm, ⟨16, _⟩ => ⟨S16384x1024, .bf16⟩
  | .hbm, ⟨17, _⟩ => ⟨S1x1024x2048, .f32⟩
  | .hbm, ⟨18, _⟩ => ⟨S1024x2048, .f32⟩
  | .hbm, ⟨19, _⟩ => ⟨S1024x2048, .bf16⟩
  | .hbm, ⟨20, _⟩ => ⟨S1x1024x2048, .f32⟩
  | .hbm, ⟨21, _⟩ => ⟨S1024x2048, .f32⟩
  | .hbm, ⟨22, _⟩ => ⟨S1024x2048, .bf16⟩
  | .hbm, ⟨23, _⟩ => ⟨S2048, .f32⟩
  | .hbm, ⟨24, _⟩ => ⟨S1x2048, .f32⟩
  | .hbm, ⟨25, _⟩ => ⟨S2048x512, .f32⟩
  | .hbm, ⟨26, _⟩ => ⟨S2048x512, .bf16⟩
  | .hbm, ⟨27, _⟩ => ⟨S512x2048, .f32⟩
  | .hbm, ⟨28, _⟩ => ⟨S512x2048, .bf16⟩
  | .hbm, ⟨29, _⟩ => ⟨S4x256x512, .f32⟩
  | .hbm, ⟨30, _⟩ => ⟨S4x256x512, .f32⟩
  | .hbm, ⟨31, _⟩ => ⟨S2048x5632, .f32⟩
  | .hbm, ⟨32, _⟩ => ⟨S2048x5632, .f32⟩
  | .hbm, ⟨33, _⟩ => ⟨S5632x2048, .f32⟩
  | .hbm, ⟨34, _⟩ => ⟨S16384x2048, .f32⟩
  | .hbm, ⟨35, _⟩ => ⟨S2048x5632, .bf16⟩
  | .hbm, ⟨36, _⟩ => ⟨S2048x5632, .bf16⟩
  | .hbm, ⟨37, _⟩ => ⟨S5632x2048, .bf16⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S2048x512, .bf16⟩
  | .local _ .vmem, ⟨10, _⟩ => ⟨S512x2048, .bf16⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S64x5632, .f32⟩
  | .local _ .vmem, ⟨16, _⟩ => ⟨S64x5632, .f32⟩
  | .local _ .vmem, ⟨17, _⟩ => ⟨S64x5632, .f32⟩
  | .local _ .vmem, ⟨18, _⟩ => ⟨S64x5632, .f32⟩
  | .local _ .vmem, ⟨19, _⟩ => ⟨S176x2048, .f32⟩
  | .local _ .vmem, ⟨20, _⟩ => ⟨S176x2048, .f32⟩
  | .local _ .vmem, ⟨21, _⟩ => ⟨S512x2048, .f32⟩
  | .local _ .vmem, ⟨22, _⟩ => ⟨S512x2048, .f32⟩
  | .local _ .vmem, ⟨23, _⟩ => ⟨S64x5632, .bf16⟩
  | .local _ .vmem, ⟨24, _⟩ => ⟨S64x5632, .bf16⟩
  | .local _ .vmem, ⟨25, _⟩ => ⟨S64x5632, .bf16⟩
  | .local _ .vmem, ⟨26, _⟩ => ⟨S64x5632, .bf16⟩
  | .local _ .vmem, ⟨27, _⟩ => ⟨S176x2048, .bf16⟩
  | .local _ .vmem, ⟨28, _⟩ => ⟨S176x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S64x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S64x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S176x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S176x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== MixRefIdeal.lean ====
abbrev S4x4096x2048 : Shape := ⟨3, ![4, 4096, 2048]⟩
abbrev S4x4096x1024 : Shape := ⟨3, ![4, 4096, 1024]⟩
abbrev S1x2048x2048 : Shape := ⟨3, ![1, 2048, 2048]⟩
abbrev S1x2048 : Shape := ⟨2, ![1, 2048]⟩
abbrev S1x2048x512 : Shape := ⟨3, ![1, 2048, 512]⟩
abbrev S1x512x2048 : Shape := ⟨3, ![1, 512, 2048]⟩
abbrev S4x256x4x128 : Shape := ⟨4, ![4, 256, 4, 128]⟩
abbrev S1x2048x5632 : Shape := ⟨3, ![1, 2048, 5632]⟩
abbrev S1x5632x2048 : Shape := ⟨3, ![1, 5632, 2048]⟩
abbrev S2048x2048 : Shape := ⟨2, ![2048, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x512 : Shape := ⟨2, ![2048, 512]⟩
abbrev S512x2048 : Shape := ⟨2, ![512, 2048]⟩
abbrev S4x4096x512 : Shape := ⟨3, ![4, 4096, 512]⟩
abbrev S4x4096x4x128 : Shape := ⟨4, ![4, 4096, 4, 128]⟩
abbrev S4x4x4096x256 : Shape := ⟨4, ![4, 4, 4096, 256]⟩
abbrev S4x4x4096 : Shape := ⟨3, ![4, 4, 4096]⟩
abbrev S4x4x4096x1 : Shape := ⟨4, ![4, 4, 4096, 1]⟩
abbrev S4x4x128x4096 : Shape := ⟨4, ![4, 4, 128, 4096]⟩
abbrev S16384x2048 : Shape := ⟨2, ![16384, 2048]⟩
abbrev S2048x5632 : Shape := ⟨2, ![2048, 5632]⟩
abbrev S5632x2048 : Shape := ⟨2, ![5632, 2048]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x1024, .f32⟩
  | .hbm, ⟨2, _⟩ => ⟨S4x4096x1024, .f32⟩
  | .hbm, ⟨3, _⟩ => ⟨S1x2048x2048, .f32⟩
  | .hbm, ⟨4, _⟩ => ⟨S1x2048, .f32⟩
  | .hbm, ⟨5, _⟩ => ⟨S1x2048x512, .f32⟩
  | .hbm, ⟨6, _⟩ => ⟨S1x512x2048, .f32⟩
  | .hbm, ⟨7, _⟩ => ⟨S4x256x4x128, .f32⟩
  | .hbm, ⟨8, _⟩ => ⟨S4x256x4x128, .f32⟩
  | .hbm, ⟨9, _⟩ => ⟨S1x2048x5632, .f32⟩
  | .hbm, ⟨10, _⟩ => ⟨S1x2048x5632, .f32⟩
  | .hbm, ⟨11, _⟩ => ⟨S1x5632x2048, .f32⟩
  | .hbm, ⟨12, _⟩ => ⟨S4x4096x2048, .f32⟩
  | .hbm, ⟨13, _⟩ => ⟨S2048x2048, .f32⟩
  | .hbm, ⟨14, _⟩ => ⟨S4x4096x2048, .f32⟩
  | .hbm, ⟨15, _⟩ => ⟨S4x4096x2048, .f32⟩
  | .hbm, ⟨16, _⟩ => ⟨S2048, .f32⟩
  | .hbm, ⟨17, _⟩ => ⟨S4x4096x2048, .f32⟩
  | .hbm, ⟨18, _⟩ => ⟨S_, .f32⟩
  | .hbm, ⟨19, _⟩ => ⟨S4x4096, .f32⟩
  | .hbm, ⟨20, _⟩ => ⟨S4x4096x1, .f32⟩
  | .hbm, ⟨21, _⟩ => ⟨S_, .f32⟩
  | .hbm, ⟨22, _⟩ => ⟨S4x4096x1, .f32⟩
  | .hbm, ⟨23, _⟩ => ⟨S4x4096x1, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x2048, .f32⟩
  | .hbm, ⟨29, _⟩ => ⟨S4x4096x2048, .f32⟩
  | .hbm, ⟨30, _⟩ => ⟨S1x1x2048, .f32⟩
  | .hbm, ⟨31, _⟩ => ⟨S4x4096x2048, .f32⟩
  | .hbm, ⟨32, _⟩ => ⟨S4x4096x2048, .f32⟩
  | .hbm, ⟨33, _⟩ => ⟨S2048x512, .f32⟩
  | .hbm, ⟨34, _⟩ => ⟨S512x2048, .f32⟩
  | .hbm, ⟨35, _⟩ => ⟨S4x4096x512, .f32⟩
  | .hbm, ⟨36, _⟩ => ⟨S4x4096x4x128, .f32⟩
  | .hbm, ⟨37, _⟩ => ⟨S4x4x4096x256, .f32⟩
  | .hbm, ⟨38, _⟩ => ⟨S_, .f32⟩
  | .hbm, ⟨39, _⟩ => ⟨S4x4x4096x256, .f32⟩
  | .hbm, ⟨40, _⟩ => ⟨S4x4x4096x256, .f32⟩
  | .hbm, ⟨41, _⟩ => ⟨S_, .f32⟩
  | .hbm, ⟨42, _⟩ => ⟨S4x4x4096, .f32⟩
  | .hbm, ⟨43, _⟩ => ⟨S_, .f32⟩
  | .hbm, ⟨44, _⟩ => ⟨S4x4x4096, .f32⟩
  | .hbm, ⟨45, _⟩ => ⟨S4x4x4096, .f32⟩
  | .hbm, ⟨46, _⟩ => ⟨S4x4x4096x1, .f32⟩
  | .hbm, ⟨47, _⟩ => ⟨S4x4x4096x256, .f32⟩
  | .hbm, ⟨48, _⟩ => ⟨S4x4x4096x256, .f32⟩
  | .hbm, ⟨49, _⟩ => ⟨S4x4x4096x256, .f32⟩
  | .hbm, ⟨50, _⟩ => ⟨S_, .f32⟩
  | .hbm, ⟨51, _⟩ => ⟨S4x4x4096, .f32⟩
  | .hbm, ⟨52, _⟩ => ⟨S4x4x4096x1, .f32⟩
  | .hbm, ⟨53, _⟩ => ⟨S4x4x4096x256, .f32⟩
  | .hbm, ⟨54, _⟩ => ⟨S4x4x4096x256, .f32⟩
  | .hbm, ⟨55, _⟩ => ⟨S4x4x128x4096, .f32⟩
  | .hbm, ⟨56, _⟩ => ⟨S4x4096x4x128, .f32⟩
  | .hbm, ⟨57, _⟩ => ⟨S4x4096x512, .f32⟩
  | .hbm, ⟨58, _⟩ => ⟨S4x4096x2048, .f32⟩
  | .hbm, ⟨59, _⟩ => ⟨S4x4096x2048, .f32⟩
  | .hbm, ⟨60, _⟩ => ⟨S16384x2048, .f32⟩
  | .hbm, ⟨61, _⟩ => ⟨S2048x5632, .f32⟩
  | .hbm, ⟨62, _⟩ => ⟨S2048x5632, .bf16⟩
  | .hbm, ⟨63, _⟩ => ⟨S2048x5632, .f32⟩
  | .hbm, ⟨64, _⟩ => ⟨S2048x5632, .bf16⟩
  | .hbm, ⟨65, _⟩ => ⟨S5632x2048, .f32⟩
  | .hbm, ⟨66, _⟩ => ⟨S5632x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== Ffs.lean ====
abbrev S128x4x2048 : Shape := ⟨3, ![128, 4, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S512x2048 : Shape := ⟨2, ![512, 2048]⟩
abbrev S2048x5632 : Shape := ⟨2, ![2048, 5632]⟩
abbrev S5632x2048 : Shape := ⟨2, ![5632, 2048]⟩
abbrev S2048x512 : Shape := ⟨2, ![2048, 512]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S512x512 : Shape := ⟨2, ![512, 512]⟩

abbrev nBuf : Space → Nat
  | .hbm => 17
  | .vmem => 11
  | .smem => 0
  | _ => 0

abbrev bufTy : (tb : Table) → Fin (tcTables nBuf tb) → BufTy
  | .hbm, ⟨0, _⟩ => ⟨S128x4x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S512x2048, .f32⟩
  | .hbm, ⟨7, _⟩ => ⟨S2048, .f32⟩
  | .hbm, ⟨8, _⟩ => ⟨S1x2048, .f32⟩
  | .hbm, ⟨9, _⟩ => ⟨S2048x5632, .f32⟩
  | .hbm, ⟨10, _⟩ => ⟨S2048x5632, .bf16⟩
  | .hbm, ⟨11, _⟩ => ⟨S2048x5632, .f32⟩
  | .hbm, ⟨12, _⟩ => ⟨S2048x5632, .bf16⟩
  | .hbm, ⟨13, _⟩ => ⟨S5632x2048, .f32⟩
  | .hbm, ⟨14, _⟩ => ⟨S5632x2048, .bf16⟩
  | .hbm, ⟨15, _⟩ => ⟨S1x2048, .f32⟩
  | .hbm, ⟨16, _⟩ => ⟨S512x2048, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x2048, .f32⟩
  | .local _ .vmem, ⟨10, _⟩ => ⟨S512x2048, .bf16⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfsRefIdeal.lean ====
abbrev S128x4x2048 : Shape := ⟨3, ![128, 4, 2048]⟩
abbrev S1x2048 : Shape := ⟨2, ![1, 2048]⟩
abbrev S1x2048x5632 : Shape := ⟨3, ![1, 2048, 5632]⟩
abbrev S1x5632x2048 : Shape := ⟨3, ![1, 5632, 2048]⟩
abbrev S2048 : Shape := ⟨1, ![2048]⟩
abbrev S_ : Shape := ⟨0, ![]⟩
abbrev S128x4 : Shape := ⟨2, ![128, 4]⟩
abbrev S128x4x1 : Shape := ⟨3, ![128, 4, 1]⟩
abbrev S1x1x2048 : Shape := ⟨3, ![1, 1, 2048]⟩
abbrev S2048x5632 : Shape := ⟨2, ![2048, 5632]⟩
abbrev S5632x2048 : Shape := ⟨2, ![5632, 2048]⟩
abbrev S128x4x5632 : Shape := ⟨3, ![128, 4, 5632]⟩
abbrev S512x2048 : Shape := ⟨2, ![512, 2048]⟩

abbrev nBuf : Space → Nat
  | .hbm => 57
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S1x2048, .f32⟩
  | .hbm, ⟨2, _⟩ => ⟨S1x2048x5632, .f32⟩
  | .hbm, ⟨3, _⟩ => ⟨S1x2048x5632, .f32⟩
  | .hbm, ⟨4, _⟩ => ⟨S1x5632x2048, .f32⟩
  | .hbm, ⟨5, _⟩ => ⟨S2048, .f32⟩
  | .hbm, ⟨6, _⟩ => ⟨S2048, .f32⟩
  | .hbm, ⟨7, _⟩ => ⟨S128x4x2048, .f32⟩
  | .hbm, ⟨8, _⟩ => ⟨S_, .f32⟩
  | .hbm, ⟨9, _⟩ => ⟨S128x4, .f32⟩
  | .hbm, ⟨10, _⟩ => ⟨S128x4x1, .f32⟩
  | .hbm, ⟨11, _⟩ => ⟨S_, .f32⟩
  | .hbm, ⟨12, _⟩ => ⟨S128x4x1, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S128x4x1, .f32⟩
  | .hbm, ⟨18, _⟩ => ⟨S128x4x2048, .f32⟩
  | .hbm, ⟨19, _⟩ => ⟨S128x4x2048, .f32⟩
  | .hbm, ⟨20, _⟩ => ⟨S1x1x2048, .f32⟩
  | .hbm, ⟨21, _⟩ => ⟨S128x4x2048, .f32⟩
  | .hbm, ⟨22, _⟩ => ⟨S128x4x2048, .f32⟩
  | .hbm, ⟨23, _⟩ => ⟨S2048x5632, .f32⟩
  | .hbm, ⟨24, _⟩ => ⟨S2048x5632, .f32⟩
  | .hbm, ⟨25, _⟩ => ⟨S5632x2048, .f32⟩
  | .hbm, ⟨26, _⟩ => ⟨S128x4x5632, .f32⟩
  | .hbm, ⟨27, _⟩ => ⟨S128x4x5632, .f32⟩
  | .hbm, ⟨28, _⟩ => ⟨S128x4x5632, .f32⟩
  | .hbm, ⟨29, _⟩ => ⟨S_, .f32⟩
  | .hbm, ⟨30, _⟩ => ⟨S128x4x5632, .f32⟩
  | .hbm, ⟨31, _⟩ => ⟨S128x4x5632, .f32⟩
  | .hbm, ⟨32, _⟩ => ⟨S_, .f32⟩
  | .hbm, ⟨33, _⟩ => ⟨S128x4x5632, .f32⟩
  | .hbm, ⟨34, _⟩ => ⟨S128x4x5632, .f32⟩
  | .hbm, ⟨35, _⟩ => ⟨S128x4x5632, .f32⟩
  | .hbm, ⟨36, _⟩ => ⟨S128x4x5632, .f32⟩
  | .hbm, ⟨37, _⟩ => ⟨S128x4x5632, .f32⟩
  | .hbm, ⟨38, _⟩ => ⟨S128x4x2048, .f32⟩
  | .hbm, ⟨39, _⟩ => ⟨S128x4x2048, .f32⟩
  | .hbm, ⟨40, _⟩ => ⟨S128x4x2048, .f32⟩
  | .hbm, ⟨41, _⟩ => ⟨S_, .f32⟩
  | .hbm, ⟨42, _⟩ => ⟨S128x4, .f32⟩
  | .hbm, ⟨43, _⟩ => ⟨S128x4x1, .f32⟩
  | .hbm, ⟨44, _⟩ => ⟨S_, .f32⟩
  | .hbm, ⟨45, _⟩ => ⟨S128x4x1, .f32⟩
  | .hbm, ⟨46, _⟩ => ⟨S128x4x1, .f32⟩
  | .hbm, ⟨47, _⟩ => ⟨S_, .f32⟩
  | .hbm, ⟨48, _⟩ => ⟨S128x4x1, .f32⟩
  | .hbm, ⟨49, _⟩ => ⟨S128x4x1, .f32⟩
  | .hbm, ⟨50, _⟩ => ⟨S128x4x1, .f32⟩
  | .hbm, ⟨51, _⟩ => ⟨S128x4x2048, .f32⟩
  | .hbm, ⟨52, _⟩ => ⟨S128x4x2048, .f32⟩
  | .hbm, ⟨53, _⟩ => ⟨S1x1x2048, .f32⟩
  | .hbm, ⟨54, _⟩ => ⟨S128x4x2048, .f32⟩
  | .hbm, ⟨55, _⟩ => ⟨S128x4x2048, .f32⟩
  | .hbm, ⟨56, _⟩ => ⟨S512x2048, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Proof.FfnCases.lean ====
/-
  The feed-forward call, one grid point at a time: what the body leaves in the output block and in the kept block of
  normalised rows, at the first point of a block of rows, at a middle point and at the last one.
-/
module

public import proofs.«01_k».proof.Proof.Gen.FfnIdeal.Value
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnIdeal.Mem

open Cert.FfnIdeal Cert.FfnIdeal.Gen

/-- A row divided by its root mean square, scaled by the gain. -/
def nrm (row gain : Fin 2048 → EReal) (k : Fin 2048) : EReal :=
  row k * Ideal.rsqrt (Ideal.div (∑ l, row l * row l) (Ideal.ofBits FTy.f32 0x45000000#32)
    + Ideal.ofBits FTy.f32 0x358637BD#32) * gain k

/-- The gated unit of a normalised row and one hidden column. -/
def gated (h wg wu : Fin 2048 → EReal) : EReal :=
  (∑ k, h k * wg k) * Ideal.logistic (∑ k, h k * wg k) * ∑ k, h k * wu k

/-- What one block of 512 hidden columns adds to an entry of the output row. -/
def part (h : Fin 2048 → EReal) (wg wu : Fin 2048 → Fin 512 → EReal) (wd : Fin 512 → EReal) : EReal :=
  ∑ s, gated h (fun k => wg k s) (fun k => wu k s) * wd s

section payloads

variable (wg wu : FVec Ideal S2048x512 .bf16) (wd : FVec Ideal S512x2048 .bf16)
  (x : FVec Ideal S256x2048 .f32) (h : FVec Ideal S256x2048 .bf16) (g : FVec Ideal S1x2048 .f32) (r : Fin 256) (e : Fin 2048)

/-- A first point's normalised rows, first quarter. -/
theorem pay10_at : k0_pay10 (F := Ideal) x g (ix2 r e) = nrm (fun k => x (ix2 r k)) (fun k => g (ix2 0 k)) e := by
  pointwise [k0_pay10, k0_pay9, k0_pay8, nrm]

/-- The same, second quarter. -/
theorem pay14_at : k0_pay14 (F := Ideal) x g (ix2 r e) = nrm (fun k => x (ix2 r k)) (fun k => g (ix2 0 k)) e := by
  pointwise [k0_pay14, k0_pay13, k0_pay12, nrm]

/-- The same, third quarter. -/
theorem pay20_at : k0_pay20 (F := Ideal) (k0_pay16 x) (k0_pay17 g) (k0_pay18 x) (ix2 r e)
    = nrm (fun k => x (ix2 r k)) (fun k => g (ix2 0 k)) e := by
  pointwise [k0_pay20, k0_pay19, k0_pay18, k0_pay17, k0_pay16, nrm]

/-- The same, last quarter. -/
theorem pay24_at : k0_pay24 (F := Ideal) x g (ix2 r e) = nrm (fun k => x (ix2 r k)) (fun k => g (ix2 0 k)) e := by
  pointwise [k0_pay24, k0_pay23, k0_pay22, nrm]

/-- A first point's output rows, first quarter. -/
theorem pay11_at : k0_pay11 (F := Ideal) wg wu wd x g (ix2 r e)
    = x (ix2 r e) + part (nrm (fun k => x (ix2 r k)) (fun k => g (ix2 0 k))) (fun k s => wg (ix2 k s)) (fun k s => wu (ix2 k s)) (fun s => wd (ix2 s e)) := by
  pointwise [k0_pay11, k0_pay9, k0_pay8, k0_pay7, k0_pay6, k0_pay5, part, gated, nrm]

/-- The same, second quarter. -/
theorem pay15_at : k0_pay15 (F := Ideal) (k0_pay5 wg) (k0_pay6 wu) (k0_pay7 wd) x g (ix2 r e)
    = x (ix2 r e) + part (nrm (fun k => x (ix2 r k)) (fun k => g (ix2 0 k))) (fun k s => wg (ix2 k s)) (fun k s => wu (ix2 k s)) (fun s => wd (ix2 s e)) := by
  pointwise [k0_pay15, k0_pay13, k0_pay12, k0_pay7, k0_pay6, k0_pay5, part, gated, nrm]

/-- The same, third quarter. -/
theorem pay21_at : k0_pay21 (F := Ideal) (k0_pay5 wg) (k0_pay6 wu) (k0_pay7 wd) (k0_pay16 x) (k0_pay17 g) (k0_pay18 x) (ix2 r e)
    = x (ix2 r e) + part (nrm (fun k => x (ix2 r k)) (fun k => g (ix2 0 k))) (fun k s => wg (ix2 k s)) (fun k s => wu (ix2 k s)) (fun s => wd (ix2 s e)) := by
  pointwise [k0_pay21, k0_pay19, k0_pay18, k0_pay17, k0_pay16, k0_pay7, k0_pay6, k0_pay5, part, gated, nrm]

/-- The same, last quarter. -/
theorem pay1_at : k0_pay1 (F := Ideal) (k0_pay6 wu) (k0_pay7 wd) (k0_pay22 x) (k0_pay23 x g) (k0_pay25 (k0_pay5 wg) x g)
      (constant S256x512 FTy.f32 0#32) (ix2 r e)
    = x (ix2 r e) + part (nrm (fun k => x (ix2 r k)) (fun k => g (ix2 0 k))) (fun k s => wg (ix2 k s)) (fun k s => wu (ix2 k s)) (fun s => wd (ix2 s e)) := by
  pointwise [k0_pay1, k0_pay25, k0_pay24, k0_pay23, k0_pay22, k0_pay7, k0_pay6, k0_pay5, part, gated, nrm]

/-- A middle point's output rows. -/
theorem pay2_at (x : FVec Ideal S1024x2048 .f32) (h : FVec Ideal S1024x2048 .bf16) (r : Fin 1024) : k0_pay2 (F := Ideal) wg wu wd x h (ix2 r e)
    = x (ix2 r e) + part (fun k => h (ix2 r k)) (fun k s => wg (ix2 k s)) (fun k s => wu (ix2 k s)) (fun s => wd (ix2 s e)) := by
  pointwise [k0_pay2, part, gated]

/-- A last point's output rows, first quarter. -/
theorem pay29_at : k0_pay29 (F := Ideal) wg wu wd x h g (ix2 r e)
    = nrm (fun e => x (ix2 r e) + part (fun k => h (ix2 r k)) (fun k s => wg (ix2 k s)) (fun k s => wu (ix2 k s)) (fun s => wd (ix2 s e)))
        (fun k => g (ix2 0 k)) e := by
  pointwise [k0_pay29, k0_pay28, k0_pay27, k0_pay26, part, gated, nrm]

/-- The same, second quarter. -/
theorem pay31_at : k0_pay31 (F := Ideal) (k0_pay26 wg) (k0_pay27 wu) (k0_pay28 wd) (k0_pay30 x) h g (ix2 r e)
    = nrm (fun e => x (ix2 r e) + part (fun k => h (ix2 r k)) (fun k s => wg (ix2 k s)) (fun k s => wu (ix2 k s)) (fun s => wd (ix2 s e)))
        (fun k => g (ix2 0 k)) e := by
  pointwise [k0_pay31, k0_pay30, k0_pay28, k0_pay27, k0_pay26, part, gated, nrm]

/-- The same, third quarter. -/
theorem pay3_at : k0_pay3 (F := Ideal) (k0_pay32 (k0_pay26 wg) (k0_pay27 wu) (k0_pay28 wd) x h) (k0_pay33 g)
      (k0_pay34 (k0_pay26 wg) (k0_pay27 wu) (k0_pay28 wd) x h) (ix2 r e)
    = nrm (fun e => x (ix2 r e) + part (fun k => h (ix2 r k)) (fun k s => wg (ix2 k s)) (fun k s => wu (ix2 k s)) (fun s => wd (ix2 s e)))
        (fun k => g (ix2 0 k)) e := by
  pointwise [k0_pay3, k0_pay34, k0_pay33, k0_pay32, k0_pay28, k0_pay27, k0_pay26, part, gated, nrm]

/-- The same, last quarter. -/
theorem pay4_at : k0_pay4 (F := Ideal) (k0_pay26 wg) (k0_pay27 wu) (k0_pay28 wd) x h g (ix2 r e)
    = nrm (fun e => x (ix2 r e) + part (fun k => h (ix2 r k)) (fun k s => wg (ix2 k s)) (fun k s => wu (ix2 k s)) (fun s => wd (ix2 s e)))
        (fun k => g (ix2 0 k)) e := by
  pointwise [k0_pay4, k0_pay28, k0_pay27, k0_pay26, part, gated, nrm]

end payloads

variable (m : (ℓ : Loc nD τ sig) → Buf (Elt Ideal) ℓ)

/-- The rows staged at a grid point. -/
abbrev bx (c : Dev nD) (t : Fin cfg0.N) : FVec Ideal S1024x2048 .f32 := iblk m c 0 t
/-- The first gain staged at a grid point. -/
abbrev bg (c : Dev nD) (t : Fin cfg0.N) : FVec Ideal S1x2048 .f32 := iblk m c 1 t
/-- The gate's columns staged at a grid point. -/
abbrev bwg (c : Dev nD) (t : Fin cfg0.N) : FVec Ideal S2048x512 .bf16 := iblk m c 2 t
/-- The columns of the other factor staged at a grid point. -/
abbrev bwu (c : Dev nD) (t : Fin cfg0.N) : FVec Ideal S2048x512 .bf16 := iblk m c 3 t
/-- The rows of the last matrix staged at a grid point. -/
abbrev bwd (c : Dev nD) (t : Fin cfg0.N) : FVec Ideal S512x2048 .bf16 := iblk m c 4 t
/-- The last gain staged at a grid point. -/
abbrev bf (c : Dev nD) (t : Fin cfg0.N) : FVec Ideal S1x2048 .f32 := iblk m c 5 t
/-- The output block after grid point `n`. -/
abbrev ob (c : Dev nD) (n : ℕ) (h : n < cfg0.N) : FVec Ideal S1024x2048 .f32 := (outsAt0 m c n h).1
/-- The kept normalised rows after grid point `n`. -/
abbrev hb (c : Dev nD) (n : ℕ) (h : n < cfg0.N) : FVec Ideal S1024x2048 .bf16 := (outsAt0 m c n h).2

/-- The normalised rows after a first point. -/
theorem hb_first (c : Dev nD) (t : Fin cfg0.N) (c0 : t.val % 11 = 0) (c1 : ¬(1 ≤ t.val % 11 ∧ t.val % 11 ≤ 9)) (c2 : ¬t.val % 11 = 10)
    (r : Fin 1024) (e : Fin 2048) :
    hb m c t.val t.isLt (ix2 r e) = nrm (fun k => bx m c t (ix2 r k)) (fun k => bg m c t (ix2 0 k)) e := by
  unfold hb
  rw [outsAt0_A m c t c0 c1 c2]; frame_out
  canon_tiles x h
  all_goals
    idx_vars x
    obtain rfl : e = _ := Fin.ext h1
  · obtain rfl : r = ⟨768 + x0.val, Nat.lt_of_lt_of_le (Nat.add_lt_add_left x0.isLt 768) (by decide)⟩ := Fin.ext h0
    exact (pay24_at _ _ _ _).trans (by pointwise)
  · obtain rfl : r = ⟨512 + x0.val, Nat.lt_of_lt_of_le (Nat.add_lt_add_left x0.isLt 512) (by decide)⟩ := Fin.ext h0
    exact (pay20_at _ _ _ _).trans (by pointwise)
  · obtain rfl : r = ⟨256 + x0.val, Nat.lt_of_lt_of_le (Nat.add_lt_add_left x0.isLt 256) (by decide)⟩ := Fin.ext h0
    exact (pay14_at _ _ _ _).trans (by pointwise)
  · obtain rfl : r = ⟨x0.val, Nat.lt_of_lt_of_le x0.isLt (by decide)⟩ := Fin.ext h0
    exact (pay10_at _ _ _ _).trans (by pointwise)

/-- The output rows after a first point. -/
theorem ob_first (c : Dev nD) (t : Fin cfg0.N) (c0 : t.val % 11 = 0) (c1 : ¬(1 ≤ t.val % 11 ∧ t.val % 11 ≤ 9)) (c2 : ¬t.val % 11 = 10)
    (r : Fin 1024) (e : Fin 2048) :
    ob m c t.val t.isLt (ix2 r e) = bx m c t (ix2 r e) + part (nrm (fun k => bx m c t (ix2 r k)) (fun k => bg m c t (ix2 0 k)))
      (fun k s => bwg m c t (ix2 k s)) (fun k s => bwu m c t (ix2 k s)) (fun s => bwd m c t (ix2 s e)) := by
  unfold ob
  rw [outsAt0_A m c t c0 c1 c2]; frame_out
  canon_tiles x h
  all_goals
    idx_vars x
    obtain rfl : e = _ := Fin.ext h1
  · obtain rfl : r = ⟨768 + x0.val, Nat.lt_of_lt_of_le (Nat.add_lt_add_left x0.isLt 768) (by decide)⟩ := Fin.ext h0
    exact (pay1_at _ _ _ _ _ _ _).trans (by pointwise)
  · obtain rfl : r = ⟨512 + x0.val, Nat.lt_of_lt_of_le (Nat.add_lt_add_left x0.isLt 512) (by decide)⟩ := Fin.ext h0
    exact (pay21_at _ _ _ _ _ _ _).trans (by pointwise)
  · obtain rfl : r = ⟨256 + x0.val, Nat.lt_of_lt_of_le (Nat.add_lt_add_left x0.isLt 256) (by decide)⟩ := Fin.ext h0
    exact (pay15_at _ _ _ _ _ _ _).trans (by pointwise)
  · obtain rfl : r = ⟨x0.val, Nat.lt_of_lt_of_le x0.isLt (by decide)⟩ := Fin.ext h0
    exact (pay11_at _ _ _ _ _ _ _).trans (by pointwise)

/-- A middle point keeps the normalised rows. -/
theorem hb_middle (c : Dev nD) (t : Fin cfg0.N) (c0 : ¬t.val % 11 = 0) (c1 : 1 ≤ t.val % 11 ∧ t.val % 11 ≤ 9) (c2 : ¬t.val % 11 = 10) :
    hb m c t.val t.isLt = hb m c (t.val - 1) (Nat.lt_of_le_of_lt (Nat.sub_le _ _) t.isLt) := by
  unfold hb
  rw [outsAt0_B m c t c0 c1 c2]; rfl

/-- The output rows after a middle point. -/
theorem ob_middle (c : Dev nD) (t : Fin cfg0.N) (c0 : ¬t.val % 11 = 0) (c1 : 1 ≤ t.val % 11 ∧ t.val % 11 ≤ 9) (c2 : ¬t.val % 11 = 10)
    (r : Fin 1024) (e : Fin 2048) :
    ob m c t.val t.isLt (ix2 r e) = ob m c (t.val - 1) (Nat.lt_of_le_of_lt (Nat.sub_le _ _) t.isLt) (ix2 r e)
      + part (fun k => hb m c (t.val - 1) (Nat.lt_of_le_of_lt (Nat.sub_le _ _) t.isLt) (ix2 r k))
      (fun k s => bwg m c t (ix2 k s)) (fun k s => bwu m c t (ix2 k s)) (fun s => bwd m c t (ix2 s e)) := by
  unfold ob
  rw [outsAt0_B m c t c0 c1 c2]; frame_out
  rw [read_unread_whole]
  exact pay2_at _ _ _ _ _ _ _

/-- The output rows after a last point. -/
theorem ob_last (c : Dev nD) (t : Fin cfg0.N) (c0 : ¬t.val % 11 = 0) (c1 : ¬(1 ≤ t.val % 11 ∧ t.val % 11 ≤ 9)) (c2 : t.val % 11 = 10)
    (r : Fin 1024) (e : Fin 2048) :
    ob m c t.val t.isLt (ix2 r e) = nrm (fun e => ob m c (t.val - 1) (Nat.lt_of_le_of_lt (Nat.sub_le _ _) t.isLt) (ix2 r e)
      + part (fun k => hb m c (t.val - 1) (Nat.lt_of_le_of_lt (Nat.sub_le _ _) t.isLt) (ix2 r k))
      (fun k s => bwg m c t (ix2 k s)) (fun k s => bwu m c t (ix2 k s)) (fun s => bwd m c t (ix2 s e))) (fun k => bf m c t (ix2 0 k)) e := by
  unfold ob
  rw [outsAt0_C m c t c0 c1 c2]; frame_out
  rw [read_unread_whole]
  canon_tiles x h
  all_goals
    idx_vars x
    obtain rfl : e = _ := Fin.ext h1
  · obtain rfl : r = ⟨768 + x0.val, Nat.lt_of_lt_of_le (Nat.add_lt_add_left x0.isLt 768) (by decide)⟩ := Fin.ext h0
    exact (pay4_at _ _ _ _ _ _ _ _).trans (by pointwise)
  · obtain rfl : r = ⟨512 + x0.val, Nat.lt_of_lt_of_le (Nat.add_lt_add_left x0.isLt 512) (by decide)⟩ := Fin.ext h0
    exact (pay3_at _ _ _ _ _ _ _ _).trans (by pointwise)
  · obtain rfl : r = ⟨256 + x0.val, Nat.lt_of_lt_of_le (Nat.add_lt_add_left x0.isLt 256) (by decide)⟩ := Fin.ext h0
    exact (pay31_at _ _ _ _ _ _ _ _).trans (by pointwise)
  · obtain rfl : r = ⟨x0.val, Nat.lt_of_lt_of_le x0.isLt (by decide)⟩ := Fin.ext h0
    exact (pay29_at _ _ _ _ _ _ _ _).trans (by pointwise)

end Cert.FfnIdeal.Mem

end
-- ==== Proof.FfnValue.lean ====
/-
  The feed-forward call: after the run the result array is the reference's, entry by entry.
-/
module

public import proofs.«01_k».proof.Proof.FfnCases
public import proofs.«01_k».proof.Proof.Gen.FfnRefIdeal.Run

@[expose] public section

set_option maxRecDepth 16384

noncomputable section

open Idealize.ShloMosaic Idealize.ShloMosaic.TcCoe Idealize.SL.Sem
open Idealize.ShloMosaic.Pipeline (Dat)

namespace Cert.FfnIdeal.Mem

section arrays

variable (X : FVec Ideal FfnRefIdeal.S4x4096x2048 .f32) (G : FVec Ideal FfnRefIdeal.S1x2048 .f32)
  (Wg Wu : FVec Ideal FfnRefIdeal.S1x2048x5632 .f32) (Wd : FVec Ideal FfnRefIdeal.S1x5632x2048 .f32)
  (Gf : FVec Ideal FfnRefIdeal.S2048 .f32) (R : Fin 16384) (e : Fin 2048)

/-- Row `R` of the two leading axes taken together. -/
def rowOf (k : Fin 2048) : EReal := X (ix3 ⟨R.val / 4096, by omega⟩ ⟨R.val % 4096, Nat.mod_lt _ (by omega)⟩ k)

/-- Row `R` normalised. -/
def hRow : Fin 2048 → EReal := nrm (rowOf X R) (fun k => G (ix2 0 k))

/-- What block `j` of the hidden columns adds to entry `e`. -/
def partOf (j : ℕ) : EReal := if hj : j < 11 then
    part (hRow X G R) (fun k s => Wg (ix3 0 k ⟨j * 512 + s.val, by omega⟩)) (fun k s => Wu (ix3 0 k ⟨j * 512 + s.val, by omega⟩))
      (fun s => Wd (ix3 0 ⟨j * 512 + s.val, by omega⟩ e))
  else 0

/-- Row `R` and what the first `n` blocks of hidden columns add to it, at entry `e`. -/
def sumTo (n : ℕ) : EReal := rowOf X R e + ∑ j ∈ Finset.range n, partOf X G Wg Wu Wd R e j

/-- The result at row `R`, entry `e`. -/
def outOf : EReal := nrm (fun e => sumTo X G Wg Wu Wd R e 11) (fun k => Gf (ix1 k)) e

/-- All the hidden columns at once. -/
theorem sumTo_all : sumTo X G Wg Wu Wd R e 11
    = rowOf X R e + ∑ l : Fin 5632, gated (hRow X G R) (fun k => Wg (ix3 0 k l)) (fun k => Wu (ix3 0 k l)) * Wd (ix3 0 l e) := by
  unfold sumTo
  rw [Fin.sum_univ_tiles 11 512 rfl, Finset.sum_range]
  refine congrArg (rowOf X R e + ·) (Finset.sum_congr rfl fun j _ => ?_)
  unfold partOf
  rw [dif_pos j.isLt]
  rfl

end arrays

end Cert.FfnIdeal.Mem

namespace Cert.FfnRefIdeal.Mem

open Cert.FfnRefIdeal Cert.FfnIdeal.Mem

section terms

variable (X : FVec Ideal S4x4096x2048 .f32) (G : FVec Ideal S1x2048 .f32) (g : FVec Ideal S2048 .f32)
  (Wg Wu : FVec Ideal S1x2048x5632 .f32) (Wd : FVec Ideal S1x5632x2048 .f32)
  (Gf : FVec Ideal S2048 .f32) (b : Fin 4) (l : Fin 4096)

/-- The reference's norm of every row. -/
def normT : FVec Ideal S4x4096x2048 .f32 :=
  mulf (mulf X (broadcastInDim S4x4096x2048 ![0, 1, 2] Gen.bcast_S4x4096x1_S4x4096x2048_0_1_2
      (Host.rsqrt (addf (Host.divf (broadcastInDim S4x4096x1 ![0, 1] Gen.bcast_S4x4096_S4x4096x1_0_1
        (Host.reduceAdd (mulf X X) (constant S_ .f32 0x00000000#32) Gen.reducesTo_S4x4096x2048_S4x4096_d2 Gen.h_S_))
        (broadcastInDim S4x4096x1 ![] Gen.bcast_S_S4x4096x1 (constant S_ .f32 0x45000000#32)))
        (broadcastInDim S4x4096x1 ![] Gen.bcast_S_S4x4096x1 (constant S_ .f32 0x358637BD#32))))))
    (broadcastInDim S4x4096x2048 ![0, 1, 2] Gen.bcast_S1x1x2048_S4x4096x2048_0_1_2
      (broadcastInDim S1x1x2048 ![2] Gen.bcast_S2048_S1x1x2048_2 g))

/-- The norm at an index. -/
theorem normT_at (k : Fin 2048) : normT X g (ix3 b l k) = nrm (fun k => X (ix3 b l k)) (fun k => g (ix1 k)) k := by
  pointwise [normT, nrm]

/-- The reference's product with one of the two wide matrices. -/
def wideT (H : FVec Ideal S4x4096x2048 .f32) (W : FVec Ideal S1x2048x5632 .f32) : FVec Ideal S4x4096x5632 .f32 :=
  Host.dotGeneral (F := Ideal) dot_S4x4096x2048_S2048x5632_S4x4096x5632_2_0_01_1_n_n none H
    (shapeCast _ W Gen.shapeCasts_S1x2048x5632_S2048x5632)

/-- The product at an index. -/
theorem wideT_at (H : FVec Ideal S4x4096x2048 .f32) (W : FVec Ideal S1x2048x5632 .f32) (s : Fin 5632) :
    wideT H W (ix3 b l s) = ∑ k, H (ix3 b l k) * W (ix3 0 k s) := by
  pointwise [wideT]

/-- The reference's gated unit. -/
def gateT (U V : FVec Ideal S4x4096x5632 .f32) : FVec Ideal S4x4096x5632 .f32 :=
  mulf (mulf U (Host.divf (broadcastInDim S4x4096x5632 ![] Gen.bcast_S_S4x4096x5632 (constant S_ .f32 0x3F800000#32))
    (addf (broadcastInDim S4x4096x5632 ![] Gen.bcast_S_S4x4096x5632 (constant S_ .f32 0x3F800000#32)) (Host.exp (Host.negf U))))) V

/-- The gated unit at an index. -/
theorem gateT_at (U V : FVec Ideal S4x4096x5632 .f32) (s : Fin 5632) :
    gateT U V (ix3 b l s) = U (ix3 b l s) * Ideal.logistic (U (ix3 b l s)) * V (ix3 b l s) := by
  pointwise [gateT]
  rfl

/-- The rows and what the hidden columns add to them. -/
def sumT (A : FVec Ideal S4x4096x5632 .f32) (W : FVec Ideal S1x5632x2048 .f32) : FVec Ideal S4x4096x2048 .f32 :=
  addf X (Host.dotGeneral (F := Ideal) dot_S4x4096x5632_S5632x2048_S4x4096x2048_2_0_01_1_n_n none A
    (shapeCast _ W Gen.shapeCasts_S1x5632x2048_S5632x2048))

/-- The same at an index. -/
theorem sumT_at (A : FVec Ideal S4x4096x5632 .f32) (W : FVec Ideal S1x5632x2048 .f32) (e : Fin 2048) :
    sumT X A W (ix3 b l e) = X (ix3 b l e) + ∑ s, A (ix3 b l s) * W (ix3 0 s e) := by
  pointwise [sumT]

/-- The reference's result, its parts named. -/
def refT : FVec Ideal S16384x2048 .f32 :=
  shapeCast _ (normT (sumT X (gateT (wideT (normT X (shapeCast _ G Gen.shapeCasts_S1x2048_S2048)) Wg)
    (wideT (normT X (shapeCast _ G Gen.shapeCasts_S1x2048_S2048)) Wu)) Wd) Gf) Gen.shapeCasts_S4x4096x2048_S16384x2048

/-- The reference's result at row `R`, entry `e`. -/
theorem refT_at (R : Fin 16384) (e : Fin 2048) : refT X G Wg Wu Wd Gf (ix2 R e) = outOf X G Wg Wu Wd Gf R e := by
  unfold outOf
  simp only [sumTo_all]
  pointwise [refT]
  simp only [normT_at, sumT_at, gateT_at, wideT_at]
  have hG : (fun k : Fin 2048 => shapeCast S2048 G Gen.shapeCasts_S1x2048_S2048 (ix1 k)) = fun k => G (ix2 0 k) := by
    funext k; pointwise
  rw [hG]
  rfl

end terms

/-- The run's result is that term of the arguments. -/
theorem res_eq (m' : (ℓ : Loc nD τ sig) → Buf (Elt Ideal) ℓ) (c : Dev nD) :
    Value.res_main_v36 m' c = refT (m' ((c : Thread nD τ).loc main_arg0)) (m' ((c : Thread nD τ).loc main_arg1))
      (m' ((c : Thread nD τ).loc main_arg2)) (m' ((c : Thread nD τ).loc main_arg3)) (m' ((c : Thread nD τ).loc main_arg4))
      (m' ((c : Thread nD τ).loc main_arg5)) := rfl

end Cert.FfnRefIdeal.Mem

namespace Cert.FfnIdeal.Mem

open Cert.FfnIdeal Cert.FfnIdeal.Gen

variable (m : (ℓ : Loc nD τ sig) → Buf (Elt Ideal) ℓ)

/-- The block indices of the windows: sixteen blocks of rows, eleven blocks of hidden columns. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0]
    ∧ win0_6.index t = ![t.val / 11, 0] :=
  (by decide +kernel : ∀ t : Fin grid0.N, _)

/-- Where row `r`, entry `e` of the output block of grid point `t` lies in the array. -/
theorem emb_o (t : Fin cfg0.N) (r : Fin 1024) (e : Fin 2048) (h : t.val / 11 * 1024 + r.val < 16384) :
    ((cfg0.win 6).blk t).view.emb (ix2 r e : S1024x2048.Idx) = (ix2 ⟨t.val / 11 * 1024 + r.val, h⟩ e : S16384x2048.Idx) := by
  blk_ext [idx t]

/-- A staged row, in the argument array. -/
theorem bx_at (c : Dev nD) (t : Fin cfg0.N) (r : Fin 1024) (k : Fin 2048) (h : t.val / 11 * 1024 + r.val < 16384) :
    bx m c t (ix2 r k) = rowOf (m ((c : Thread nD τ).loc main_arg0)) ⟨t.val / 11 * 1024 + r.val, h⟩ k := by
  unfold rowOf
  blk_simp [iblk]; entry_read; pointwise; blk_ext [iblk, V, idx t]

/-- The staged gain of the first norm. -/
theorem bg_at (c : Dev nD) (t : Fin cfg0.N) (k : Fin 2048) :
    bg m c t (ix2 0 k) = m ((c : Thread nD τ).loc main_arg1) (ix2 0 k : S1x2048.Idx) := by
  blk_simp [iblk]; entry_read; pointwise; blk_ext [iblk, V, idx t]

/-- The staged columns of the gate. -/
theorem bwg_at (c : Dev nD) (t : Fin cfg0.N) (k : Fin 2048) (s : Fin 512) (h : t.val % 11 * 512 + s.val < 5632) :
    bwg m c t (ix2 k s) = m ((c : Thread nD τ).loc main_arg2) (ix3 0 k ⟨t.val % 11 * 512 + s.val, h⟩ : S1x2048x5632.Idx) := by
  blk_simp [iblk]; entry_read; pointwise; blk_ext [iblk, V, idx t]

/-- The staged columns of the other factor. -/
theorem bwu_at (c : Dev nD) (t : Fin cfg0.N) (k : Fin 2048) (s : Fin 512) (h : t.val % 11 * 512 + s.val < 5632) :
    bwu m c t (ix2 k s) = m ((c : Thread nD τ).loc main_arg3) (ix3 0 k ⟨t.val % 11 * 512 + s.val, h⟩ : S1x2048x5632.Idx) := by
  blk_simp [iblk]; entry_read; pointwise; blk_ext [iblk, V, idx t]

/-- The staged rows of the last matrix. -/
theorem bwd_at (c : Dev nD) (t : Fin cfg0.N) (s : Fin 512) (e : Fin 2048) (h : t.val % 11 * 512 + s.val < 5632) :
    bwd m c t (ix2 s e) = m ((c : Thread nD τ).loc main_arg4) (ix3 0 ⟨t.val % 11 * 512 + s.val, h⟩ e : S1x5632x2048.Idx) := by
  blk_simp [iblk]; entry_read; pointwise; blk_ext [iblk, V, idx t]

/-- The staged gain of the last norm. -/
theorem bf_at (c : Dev nD) (t : Fin cfg0.N) (k : Fin 2048) :
    bf m c t (ix2 0 k) = m ((c : Thread nD τ).loc main_arg5) (ix1 k : S2048.Idx) := by
  blk_simp [iblk]; entry_read; pointwise; blk_ext [iblk, V, idx t]

/-- The entry of the result at a row, of the arguments. -/
abbrev resAt (c : Dev nD) (R : Fin 16384) (e : Fin 2048) : EReal :=
  outOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) R e

/-- The partial sums of a row, of the arguments. -/
abbrev sumAt (c : Dev nD) (R : Fin 16384) (e : Fin 2048) (n : ℕ) : EReal :=
  sumTo (m ((c : Thread nD τ).loc main_arg0)) (m ((c : Thread nD τ).loc main_arg1)) (m ((c : Thread nD τ).loc main_arg2))
    (m ((c : Thread nD τ).loc main_arg3)) (m ((c : Thread nD τ).loc main_arg4)) R e n

/-- The normalised row, of the arguments. -/
abbrev hAt (c : Dev nD) (R : Fin 16384) : Fin 2048 → EReal :=
  hRow (m ((c : Thread nD τ).loc main_arg0)) (m ((c : Thread nD τ).loc main_arg1)) R

/-- One more block of hidden columns. -/
theorem part_at (c : Dev nD) (t : Fin cfg0.N) (R : Fin 16384) (e : Fin 2048) :
    sumAt m c R e (t.val % 11) + part (hAt m c R) (fun k s => bwg m c t (ix2 k s)) (fun k s => bwu m c t (ix2 k s)) (fun s => bwd m c t (ix2 s e))
      = sumAt m c R e (t.val % 11 + 1) := by
  have hj : t.val % 11 < 11 := Nat.mod_lt _ (by omega)
  unfold sumAt sumTo
  rw [Finset.sum_range_succ, ← add_assoc]
  congr 1
  unfold partOf
  rw [dif_pos hj]
  have e1 : (fun (k : Fin 2048) (s : Fin 512) => bwg m c t (ix2 k s)) = _ := funext fun k => funext fun s => bwg_at m c t k s (by omega)
  have e2 : (fun (k : Fin 2048) (s : Fin 512) => bwu m c t (ix2 k s)) = _ := funext fun k => funext fun s => bwu_at m c t k s (by omega)
  have e3 : (fun (s : Fin 512) => bwd m c t (ix2 s e)) = _ := funext fun s => bwd_at m c t s e (by omega)
  rw [e1, e2, e3]

/-- The normalised rows of a first point. -/
theorem first_row (c : Dev nD) (t : Fin cfg0.N) (r : Fin 1024) (h : t.val / 11 * 1024 + r.val < 16384) :
    nrm (fun k => bx m c t (ix2 r k)) (fun k => bg m c t (ix2 0 k)) = hAt m c ⟨t.val / 11 * 1024 + r.val, h⟩ := by
  have e1 : (fun k => bx m c t (ix2 r k)) = _ := funext fun k => bx_at m c t r k h
  have e2 : (fun k => bg m c t (ix2 0 k)) = _ := funext fun k => bg_at m c t k
  rw [e1, e2]; rfl

/-- The state kept after point `n` of a block of rows, at one row: the normalised row, and the partial sums. -/
def Kept (c : Dev nD) (n : ℕ) (hn : n < cfg0.N) (r : Fin 1024) (R : Fin 16384) (j : ℕ) : Prop :=
  (∀ k, hb m c n hn (ix2 r k) = hAt m c R k) ∧ ∀ e, ob m c n hn (ix2 r e) = sumAt m c R e j

/-- The first point of a block of rows leaves the normalised rows and the first partial sum. -/
theorem kept_first (c : Dev nD) (t : Fin cfg0.N) (c0 : t.val % 11 = 0) (r : Fin 1024) (h : t.val / 11 * 1024 + r.val < 16384) :
    Kept m c t.val t.isLt r ⟨t.val / 11 * 1024 + r.val, h⟩ (t.val % 11 + 1) := by
  have hr := first_row m c t r h
  have c1 : ¬(1 ≤ t.val % 11 ∧ t.val % 11 ≤ 9) := by omega
  have c2 : ¬t.val % 11 = 10 := by omega
  refine ⟨fun k => ?_, fun e => ?_⟩
  · rw [hb_first m c t c0 c1 c2, hr]
  · rw [ob_first m c t c0 c1 c2, hr, bx_at m c t r e h, ← part_at m c t, c0]
    congr 1
    exact (add_zero _).symm

/-- A middle point adds its part. -/
theorem kept_middle (c : Dev nD) (t : Fin cfg0.N) (c0 : ¬t.val % 11 = 0) (c2 : ¬t.val % 11 = 10) (r : Fin 1024) (R : Fin 16384)
    (ih : Kept m c (t.val - 1) (Nat.lt_of_le_of_lt (Nat.sub_le _ _) t.isLt) r R (t.val % 11)) :
    Kept m c t.val t.isLt r R (t.val % 11 + 1) := by
  have c1 : 1 ≤ t.val % 11 ∧ t.val % 11 ≤ 9 := by omega
  refine ⟨fun k => ?_, fun e => ?_⟩
  · rw [hb_middle m c t c0 c1 c2]; exact ih.1 k
  · rw [ob_middle m c t c0 c1 c2, ← part_at m c t R e, ih.2 e]
    rw [show (fun k => hb m c (t.val - 1) (Nat.lt_of_le_of_lt (Nat.sub_le _ _) t.isLt) (ix2 r k)) = hAt m c R from funext ih.1]

/-- Before the last point of a block of rows: the kept rows are the normalised ones, the output block holds the partial sums. -/
theorem sweep (c : Dev nD) (n : ℕ) : ∀ (hn : n < cfg0.N) (hl : ¬n % 11 = 10) (r : Fin 1024) (R : Fin 16384)
    (h : R.val = n / 11 * 1024 + r.val), Kept m c n hn r R (n % 11 + 1) := by
  induction n using Nat.strong_induction_on with
  | _ n ih =>
    intro hn hl r R h
    by_cases c0 : n % 11 = 0
    · have h' : n / 11 * 1024 + r.val < 16384 := h ▸ R.isLt
      rw [show R = ⟨n / 11 * 1024 + r.val, h'⟩ from Fin.ext h]
      exact kept_first m c ⟨n, hn⟩ c0 r h'
    · have i := ih (n - 1) (by omega) (Nat.lt_of_le_of_lt (Nat.sub_le _ _) hn) (by omega) r R (by omega)
      rw [show (n - 1) % 11 + 1 = n % 11 by omega] at i
      exact kept_middle m c ⟨n, hn⟩ c0 hl r R i

/-- The output block after the last point of a block of rows. -/
theorem last (c : Dev nD) (t : Fin cfg0.N) (hl : t.val % 11 = 10) (r : Fin 1024) (e : Fin 2048) (R : Fin 16384)
    (h : R.val = t.val / 11 * 1024 + r.val) :
    ob m c t.val t.isLt (ix2 r e) = resAt m c R e := by
  have s := sweep m c (t.val - 1) (Nat.lt_of_le_of_lt (Nat.sub_le _ _) t.isLt) (by omega) r R (by omega)
  rw [show (t.val - 1) % 11 + 1 = t.val % 11 by omega] at s
  rw [ob_last m c t (by omega) (by omega) hl,
    show (fun k => hb m c (t.val - 1) (Nat.lt_of_le_of_lt (Nat.sub_le _ _) t.isLt) (ix2 r k)) = hAt m c R from funext s.1]
  refine congr (congr (congrArg nrm (funext fun e => ?_)) (funext fun k => bf_at m c t k)) rfl
  rw [s.2 e, part_at m c t R e, hl]

/-- The result array after the run. -/
theorem final (c : Dev nD) : (dats m 0 c).arrAt 6 (cfgs 0).N
    = FfnRefIdeal.Mem.refT (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 6 _ (by decide +kernel) fun t hf y => ?_
  have hl := (flush0_6 t).mp hf
  blk_simp
  idx_vars y
  have ht : t.val < 176 := t.isLt
  rw [emb_o t _ _ (by omega), FfnRefIdeal.Mem.refT_at]
  rw [after0_6]
  exact last m c t hl y0 y1 _ rfl

end Cert.FfnIdeal.Mem

end
-- ==== Proof.FfnClaims.lean ====
/-
  The claims about the feed-forward call: frames, that idealizing rewrites nothing, and that the kernel's
  result is the reference's.
-/
module

public import proofs.«01_k».proof.Defs
public import proofs.«01_k».proof.Proof.Gen.Ffn.Frame
public import proofs.«01_k».proof.Proof.FfnValue
public import Idealize.ShloMosaic.Lib.Claim

@[expose] public section

set_option maxRecDepth 16384

noncomputable section

open Idealize.ShloMosaic Idealize.ShloMosaic.TcCoe Idealize.SL.Sem

namespace Cert.FfnProof

/-- The kernel over bits finishes, and leaves its arguments as they were. -/
theorem frame : Cert.quiescent_Ffn := fun m ρ _ => Cert.Ffn.Gen.frame m ρ

/-- The kernel over exact values finishes, and leaves its arguments as they were. -/
theorem frameIdeal : Cert.quiescent_FfnIdeal := fun m ρ _ => Cert.FfnIdeal.Gen.frame m ρ

/-- The reference finishes, and leaves its arguments as they were. -/
theorem frameRef : Cert.quiescent_FfnRefIdeal := by
  intro m ρ _
  exact (θ_run Cert.FfnRefIdeal.defs _ _).mono
    (fun r h => ⟨fun c => (h c).2, sem_eq_zero_of_no_sems (by decide) r.2⟩) (Cert.FfnRefIdeal.Value.run m ρ)

/-- Idealizing rewrites nothing in this program. -/
theorem preserves : Cert.preserves_Ffn_FfnIdeal := trivial

/-- From the same arguments the kernel's result is the reference's. -/
theorem algebraic : Cert.algebraic_FfnIdeal_FfnRefIdeal := by
  pair_intro
  · run_from Cert.FfnIdeal.Gen.run_main m g
  · run_from Cert.FfnRefIdeal.Value.run m' g'
    · obtain ⟨h0, h1, h2, h3, h4, h5⟩ := hagree c
      rw [Cert.FfnRefIdeal.Mem.res_eq m' c, h0, h1, h2, h3, h4, h5]
      exact (Cert.FfnIdeal.Mem.final m c).symm

end Cert.FfnProof

end
-- ==== Proof.MkvValue.lean ====
/-
  Keys and values of the prompt's memory: the array that the call leaves in each of its two results is the
  normalised memory times the weights, as the reference computes it.
-/
module

public import proofs.«01_k».proof.Proof.Gen.MkvIdeal.Value
public import proofs.«01_k».proof.Proof.Gen.MkvRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MkvIdeal.Mem

open Cert.MkvIdeal Cert.MkvIdeal.Gen

variable (m : (ℓ : Loc nD τ sig) → Buf (Elt Ideal) ℓ)

/-- The reference's composed term: rows of `X` normalised by their root mean square, scaled by `G`, times `W`. -/
def refTerm (X : FVec Ideal MkvRefIdeal.S4x256x2048 .f32) (G : FVec Ideal MkvRefIdeal.S1x2048 .f32)
    (W : FVec Ideal MkvRefIdeal.S1x2048x512 .f32) : FVec Ideal MkvRefIdeal.S1024x512 .f32 :=
  shapeCast _ (Host.dotGeneral (F := Ideal) MkvRefIdeal.dot_S4x256x2048_S2048x512_S4x256x512_2_0_01_1_n_n none
    (mulf (mulf X (broadcastInDim MkvRefIdeal.S4x256x2048 ![0, 1, 2] MkvRefIdeal.Gen.bcast_S4x256x1_S4x256x2048_0_1_2
      (Host.rsqrt (addf (Host.divf (broadcastInDim MkvRefIdeal.S4x256x1 ![0, 1] MkvRefIdeal.Gen.bcast_S4x256_S4x256x1_0_1
        (Host.reduceAdd (mulf X X) (constant MkvRefIdeal.S_ .f32 0x00000000#32) MkvRefIdeal.Gen.reducesTo_S4x256x2048_S4x256_d2 MkvRefIdeal.Gen.h_S_))
        (broadcastInDim MkvRefIdeal.S4x256x1 ![] MkvRefIdeal.Gen.bcast_S_S4x256x1 (constant MkvRefIdeal.S_ .f32 0x45000000#32)))
        (broadcastInDim MkvRefIdeal.S4x256x1 ![] MkvRefIdeal.Gen.bcast_S_S4x256x1 (constant MkvRefIdeal.S_ .f32 0x358637BD#32))))))
      (broadcastInDim MkvRefIdeal.S4x256x2048 ![0, 1, 2] MkvRefIdeal.Gen.bcast_S1x1x2048_S4x256x2048_0_1_2
        (broadcastInDim MkvRefIdeal.S1x1x2048 ![2] MkvRefIdeal.Gen.bcast_S2048_S1x1x2048_2 (shapeCast _ G MkvRefIdeal.Gen.shapeCasts_S1x2048_S2048))))
    (shapeCast _ W MkvRefIdeal.Gen.shapeCasts_S1x2048x512_S2048x512)) MkvRefIdeal.Gen.shapeCasts_S4x256x512_S1024x512

/-- The block indices of the windows: rows move with the grid point, gain and weights stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- Where row `r`, column `e` of the block of keys of grid point `t` lies in the array. -/
theorem emb_k (t : Fin cfg0.N) (r : Fin 512) (e : Fin 512) (h : t.val * 512 + r.val < 1024) :
    ((cfg0.win 4).blk t).view.emb (ix2 r e : S512x512.Idx) = (ix2 ⟨t.val * 512 + r.val, h⟩ e : S1024x512.Idx) := by
  blk_ext [idx t]

/-- Where row `r`, column `e` of the block of values of grid point `t` lies in the array. -/
theorem emb_v (t : Fin cfg0.N) (r : Fin 512) (e : Fin 512) (h : t.val * 512 + r.val < 1024) :
    ((cfg0.win 5).blk t).view.emb (ix2 r e : S512x512.Idx) = (ix2 ⟨t.val * 512 + r.val, h⟩ e : S1024x512.Idx) := by
  blk_ext [idx t]

/-- A row divided by its root mean square, scaled by the gain, times a column of weights. -/
def lin (row gain col : Fin 2048 → EReal) : EReal :=
  ∑ k, row k * Ideal.rsqrt (Ideal.div (∑ l, row l * row l) (Ideal.ofBits FTy.f32 0x45000000#32)
    + Ideal.ofBits FTy.f32 0x358637BD#32) * gain k * col k

/-- The reference's term at a row and a column. -/
theorem refTerm_at (X : FVec Ideal MkvRefIdeal.S4x256x2048 .f32) (G : FVec Ideal MkvRefIdeal.S1x2048 .f32)
    (W : FVec Ideal MkvRefIdeal.S1x2048x512 .f32) (r : Fin 1024) (e : Fin 512) :
    refTerm X G W (ix2 r e) = lin (fun k => X (ix3 ⟨r.val / 256, by omega⟩ ⟨r.val % 256, Nat.mod_lt _ (by omega)⟩ k))
      (fun k => G (ix2 0 k)) (fun k => W (ix3 0 k e)) := by
  pointwise [refTerm, lin]

/-- The stored block of keys at a row and a column. -/
theorem pay2_at (X : FVec Ideal S512x2048 .f32) (G : FVec Ideal S1x2048 .f32)
    (W : FVec Ideal S2048x512 .f32) (r : Fin 512) (e : Fin 512) :
    k0_pay2 (F := Ideal) X G W (ix2 r e) = lin (fun k => X (ix2 r k)) (fun k => G (ix2 0 k)) (fun k => W (ix2 k e)) := by
  pointwise [k0_pay2, k0_pay1, lin]

/-- The stored block of values at a row and a column. -/
theorem pay3_at (X : FVec Ideal S512x2048 .f32) (G : FVec Ideal S1x2048 .f32)
    (W : FVec Ideal S2048x512 .f32) (r : Fin 512) (e : Fin 512) :
    k0_pay3 (F := Ideal) X G W (ix2 r e) = lin (fun k => X (ix2 r k)) (fun k => G (ix2 0 k)) (fun k => W (ix2 k e)) := by
  pointwise [k0_pay3, k0_pay1, lin]

/-- Row `r` of the staged block of the memory, in the argument array. -/
theorem blk0_at (c : Dev nD) (t : Fin cfg0.N) (r : Fin 512) (k : Fin 2048) (h : (t.val * 512 + r.val) / 256 < 4) :
    iblk m c 0 t (ix2 r k : S512x2048.Idx)
      = m ((c : Thread nD τ).loc main_arg0) (ix3 ⟨(t.val * 512 + r.val) / 256, h⟩ ⟨(t.val * 512 + r.val) % 256, Nat.mod_lt _ (by omega)⟩ k : S4x256x2048.Idx) := by
  blk_simp [iblk]; entry_read; pointwise; blk_ext [iblk, V, idx t]

/-- The staged gain. -/
theorem blk1_at (c : Dev nD) (t : Fin cfg0.N) (k : Fin 2048) :
    iblk m c 1 t (ix2 0 k : S1x2048.Idx) = m ((c : Thread nD τ).loc main_arg1) (ix2 0 k : S1x2048.Idx) := by
  blk_simp [iblk]; entry_read; pointwise; blk_ext [iblk, V, idx t]

/-- The staged weights of the keys. -/
theorem blk2_at (c : Dev nD) (t : Fin cfg0.N) (k : Fin 2048) (e : Fin 512) :
    iblk m c 2 t (ix2 k e : S2048x512.Idx) = m ((c : Thread nD τ).loc main_arg2) (ix3 0 k e : S1x2048x512.Idx) := by
  blk_simp [iblk]; entry_read; pointwise; blk_ext [iblk, V, idx t]

/-- The staged weights of the values. -/
theorem blk3_at (c : Dev nD) (t : Fin cfg0.N) (k : Fin 2048) (e : Fin 512) :
    iblk m c 3 t (ix2 k e : S2048x512.Idx) = m ((c : Thread nD τ).loc main_arg3) (ix3 0 k e : S1x2048x512.Idx) := by
  blk_simp [iblk]; entry_read; pointwise; blk_ext [iblk, V, idx t]

/-- What a grid point stores in its block of keys is the reference's term at that place of the array. -/
theorem point_k (c : Dev nD) (t : Fin cfg0.N) (y : S512x512.Idx) :
    k0_pay2 (iblk m c 0 t) (iblk m c 1 t) (iblk m c 2 t) y
      = refTerm (m ((c : Thread nD τ).loc main_arg0)) (m ((c : Thread nD τ).loc main_arg1)) (m ((c : Thread nD τ).loc main_arg2))
          (((cfg0.win 4).blk t).view.emb y) := by
  idx_vars y
  have ht : t.val < 2 := t.isLt
  rw [emb_k t _ _ (by omega), refTerm_at, pay2_at]
  exact congr (congrArg₂ lin (funext fun k => blk0_at m c t y0 k (by omega)) (funext fun k => blk1_at m c t k))
    (funext fun k => blk2_at m c t k y1)

/-- What a grid point stores in its block of values is the reference's term at that place of the array. -/
theorem point_v (c : Dev nD) (t : Fin cfg0.N) (y : S512x512.Idx) :
    k0_pay3 (iblk m c 0 t) (iblk m c 1 t) (iblk m c 3 t) y
      = refTerm (m ((c : Thread nD τ).loc main_arg0)) (m ((c : Thread nD τ).loc main_arg1)) (m ((c : Thread nD τ).loc main_arg3))
          (((cfg0.win 5).blk t).view.emb y) := by
  idx_vars y
  have ht : t.val < 2 := t.isLt
  rw [emb_v t _ _ (by omega), refTerm_at, pay3_at]
  exact congr (congrArg₂ lin (funext fun k => blk0_at m c t y0 k (by omega)) (funext fun k => blk1_at m c t k))
    (funext fun k => blk3_at m c t k y1)

/-- The array of keys after the run. -/
theorem keys (c : Dev nD) : (dats m 0 c).arrAt 4 (cfgs 0).N
    = refTerm (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point_k m c t y

/-- The array of values after the run. -/
theorem values (c : Dev nD) : (dats m 0 c).arrAt 5 (cfgs 0).N
    = refTerm (m ((c : Thread nD τ).loc main_arg0)) (m ((c : Thread nD τ).loc main_arg1)) (m ((c : Thread nD τ).loc main_arg3)) := by
  refine (dats m 0 c).arrAt_eq_of_covers 5 _ (by decide +kernel) fun t _ y => ?_
  blk_simp
  rw [after0_5]; frame_out
  exact point_v m c t y

end Cert.MkvIdeal.Mem

end
-- ==== Proof.MkvClaims.lean ====
/-
  The claims about the keys and values of the prompt's memory: frames, that idealizing rewrites nothing,
  and that the kernel's two results are the reference's.
-/
module

public import proofs.«01_k».proof.Defs
public import proofs.«01_k».proof.Proof.Gen.Mkv.Frame
public import proofs.«01_k».proof.Proof.MkvValue
public import Idealize.ShloMosaic.Lib.Claim

@[expose] public section

set_option maxRecDepth 16384

noncomputable section

open Idealize.ShloMosaic Idealize.ShloMosaic.TcCoe Idealize.SL.Sem

namespace Cert.MkvProof

/-- The kernel over bits finishes, and leaves its arguments as they were. -/
theorem frame : Cert.quiescent_Mkv := fun m ρ _ => Cert.Mkv.Gen.frame m ρ

/-- The kernel over exact values finishes, and leaves its arguments as they were. -/
theorem frameIdeal : Cert.quiescent_MkvIdeal := fun m ρ _ => Cert.MkvIdeal.Gen.frame m ρ

/-- The reference finishes, and leaves its arguments as they were. -/
theorem frameRef : Cert.quiescent_MkvRefIdeal := by
  intro m ρ _
  exact (θ_run Cert.MkvRefIdeal.defs _ _).mono
    (fun r h => ⟨fun c => (h c).2.2, sem_eq_zero_of_no_sems (by decide) r.2⟩) (Cert.MkvRefIdeal.Value.run m ρ)

/-- Idealizing rewrites nothing in this program. -/
theorem preserves : Cert.preserves_Mkv_MkvIdeal := trivial

/-- From the same arguments the kernel's keys and values are the reference's. -/
theorem algebraic : Cert.algebraic_MkvIdeal_MkvRefIdeal := by
  pair_intro
  · run_from Cert.MkvIdeal.Gen.run_main m g
  · run_from Cert.MkvRefIdeal.Value.run m' g'
    · exact (Cert.MkvIdeal.Mem.keys m c).symm
    · exact (Cert.MkvIdeal.Mem.values m c).symm

end Cert.MkvProof

end
-- ==== Proof.MixCases.lean ====
/-
  The output projection of the mixer and the attention to the memory, one grid point: the stored rows, entry by entry.
-/
module

public import proofs.«01_k».proof.Proof.Gen.MixIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixIdeal.Mem

open Cert.MixIdeal Cert.MixIdeal.Gen

/-- A row divided by its root mean square, scaled by the gain. -/
def nrm (row gain : Fin 2048 → EReal) (k : Fin 2048) : EReal :=
  row k * Ideal.rsqrt (Ideal.div (∑ l, row l * row l) (Ideal.ofBits FTy.f32 0x45000000#32)
    + Ideal.ofBits FTy.f32 0x358637BD#32) * gain k

/-- The row after the mixer: the row, and the two halves of the mixer's output times their weights. -/
def mixed (x : Fin 2048 → EReal) (a b : Fin 1024 → EReal) (wa wb : Fin 1024 → Fin 2048 → EReal) (e : Fin 2048) : EReal :=
  x e + (∑ k, a k * wa k e) + ∑ k, b k * wb k e

/-- The query of a row. -/
def query (h : Fin 2048 → EReal) (wq : Fin 2048 → Fin 512 → EReal) (j : Fin 512) : EReal := ∑ k, h k * wq k j

/-- The score of one memory row for a head. -/
def score (q mk : Fin 128 → EReal) : EReal := (∑ d, q d * mk d) * Ideal.ofBits FTy.f32 0x3DB504F3#32

variable (x : FVec Ideal S512x2048 .f32) (a b : FVec Ideal S512x1024 .bf16) (wa wb : FVec Ideal S1024x2048 .bf16)
  (g : FVec Ideal S1x2048 .f32) (wq : FVec Ideal S2048x512 .bf16) (wo : FVec Ideal S512x2048 .bf16)
  (mk mv : FVec Ideal S1x256x128 .f32) (q : FVec Ideal S512x512 .f32) (s : FVec Ideal S512x256 .f32) (p0 p1 p2 p3 : FVec Ideal S512x256 .bf16)
  (r : Fin 512)

/-- The rows after the mixer, at an index. -/
theorem pay5_at (e : Fin 2048) : k0_pay5 (F := Ideal) x a wa b wb (ix2 r e)
    = mixed (fun k => x (ix2 r k)) (fun k => a (ix2 r k)) (fun k => b (ix2 r k)) (fun k e => wa (ix2 k e)) (fun k e => wb (ix2 k e)) e := by
  pointwise [k0_pay5, mixed]

/-- The queries, at an index. -/
theorem pay8_at (j : Fin 512) : k0_pay8 (F := Ideal) x (k0_pay6 g) (mulf x x) wq (ix2 r j)
    = query (nrm (fun k => x (ix2 r k)) (fun k => g (ix2 0 k))) (fun k j => wq (ix2 k j)) j := by
  pointwise [k0_pay8, k0_pay6, query, nrm]

/-- The scores of the first head, at an index. -/
theorem pay9_at (m : Fin 256) : k0_pay9 (F := Ideal) x (k0_pay6 g) (mulf x x) wq mk (ix2 r m)
    = score (fun d => k0_pay8 (F := Ideal) x (k0_pay6 g) (mulf x x) wq (ix2 r ⟨d.val, by omega⟩)) (fun d => mk (ix3 0 m d)) := by
  pointwise [k0_pay9, score]

/-- The scores of the second head, at an index. -/
theorem pay10_at (m : Fin 256) : k0_pay10 (F := Ideal) x (k0_pay6 g) (mulf x x) wq mk (ix2 r m)
    = score (fun d => k0_pay8 (F := Ideal) x (k0_pay6 g) (mulf x x) wq (ix2 r ⟨128 + d.val, by omega⟩)) (fun d => mk (ix3 0 m d)) := by
  pointwise [k0_pay10, score]

/-- The exponential of a score less the largest. -/
def pexp (s : Fin 256 → EReal) (m : Fin 256) : EReal :=
  Ideal.exp (s m - Finset.fold max (Ideal.ofBits FTy.f32 0xFF800000#32) s Finset.univ)

/-- The weighted mean of values. -/
def attn (s v : Fin 256 → EReal) : EReal := Ideal.div (∑ x, pexp s x * v x) (∑ x, pexp s x)

/-- The exponentials of a head, at an index. -/
theorem pay12_at (m : Fin 256) : k0_pay12 (F := Ideal) s (ix2 r m) = pexp (fun m => s (ix2 r m)) m := by
  pointwise [k0_pay12, pexp]

/-- The exponentials of another head, at an index. -/
theorem pay13_at (m : Fin 256) : k0_pay13 (F := Ideal) s (ix2 r m) = pexp (fun m => s (ix2 r m)) m := by
  pointwise [k0_pay13, pexp]

/-- The exponentials of the fourth head, at an index. -/
theorem pay14_at (m : Fin 256) : k0_pay14 (F := Ideal) q mk (ix2 r m)
    = pexp (fun m => score (fun d => q (ix2 r ⟨384 + d.val, by omega⟩)) (fun d => mk (ix3 0 m d))) m := by
  pointwise [k0_pay14, pexp, score]

/-- The mean of the first head, at an index. -/
theorem pay15_at (d : Fin 128) : k0_pay15 (F := Ideal) s mv (ix2 r d) = attn (fun m => s (ix2 r m)) (fun m => mv (ix3 0 m d)) := by
  pointwise [k0_pay15, attn, pexp]

/-- The scores of the third head, at an index. -/
theorem pay11_at (m : Fin 256) : k0_pay11 (F := Ideal) x (k0_pay6 g) (mulf x x) wq mk (ix2 r m)
    = score (fun d => k0_pay8 (F := Ideal) x (k0_pay6 g) (mulf x x) wq (ix2 r ⟨256 + d.val, by omega⟩)) (fun d => mk (ix3 0 m d)) := by
  pointwise [k0_pay11, score]

/-- The stored rows, given the attention's output `O` of the four heads side by side. -/
theorem pay1_at (o0 : FVec Ideal S512x128 .f32) (mv1 mv2 mv3 : FVec Ideal S1x256x128 .f32) (e : Fin 2048) (O : Fin 512 → EReal)
    (H0 : ∀ d : Fin 128, o0 (ix2 r d) = O ⟨d.val, by omega⟩)
    (H1 : ∀ d : Fin 128, Ideal.div (∑ m, p1 (ix2 r m) * mv1 (ix3 0 m d)) (∑ m, p1 (ix2 r m)) = O ⟨128 + d.val, by omega⟩)
    (H2 : ∀ d : Fin 128, Ideal.div (∑ m, p2 (ix2 r m) * mv2 (ix3 0 m d)) (∑ m, p2 (ix2 r m)) = O ⟨256 + d.val, by omega⟩)
    (H3 : ∀ d : Fin 128, Ideal.div (∑ m, p3 (ix2 r m) * mv3 (ix3 0 m d)) (∑ m, p3 (ix2 r m)) = O ⟨384 + d.val, by omega⟩) :
    k0_pay1 (F := Ideal) x p1 p2 p3 o0 (k0_pay16 mv1) mv2 mv3 wo (ix2 r e) = x (ix2 r e) + ∑ j, O j * wo (ix2 j e) := by
  pointwise [k0_pay1, k0_pay16]
  refine congrArg (_ + ·) (Finset.sum_congr rfl fun j _ => congrArg (· * _) ?_)
  by_cases h0 : j.val < 128
  · rw [dif_pos h0]; exact H0 ⟨j.val, h0⟩
  rw [dif_neg h0]
  by_cases h1 : j.val - 128 < 128
  · simp only [dif_pos h1]
    refine (H1 ⟨j.val - 128, h1⟩).trans (congrArg O (Fin.ext ?_))
    show 128 + (j.val - 128) = j.val; omega
  rw [dif_neg h1]
  by_cases h2 : j.val - 128 - 128 < 128
  · simp only [dif_pos h2]
    refine (H2 ⟨j.val - 128 - 128, h2⟩).trans (congrArg O (Fin.ext ?_))
    show 256 + (j.val - 128 - 128) = j.val; omega
  rw [dif_neg h2]
  have h3 : j.val - 128 - 128 - 128 < 128 := by omega
  simp only [dif_pos h3]
  refine (H3 ⟨j.val - 128 - 128 - 128, h3⟩).trans (congrArg O (Fin.ext ?_))
  show 384 + (j.val - 128 - 128 - 128) = j.val; omega

/-- The head's output at column `j` of the four heads side by side. -/
def headOut (q : Fin 512 → EReal) (K V : Fin 256 → Fin 512 → EReal) (j : Fin 512) : EReal :=
  attn (fun m => score (fun d => q ⟨j.val / 128 * 128 + d.val, by omega⟩) (fun d => K m ⟨j.val / 128 * 128 + d.val, by omega⟩)) (fun m => V m j)

/-- The row after the attention. -/
def attended (x1 g : Fin 2048 → EReal) (wq : Fin 2048 → Fin 512 → EReal) (K V : Fin 256 → Fin 512 → EReal)
    (wo : Fin 512 → Fin 2048 → EReal) (e : Fin 2048) : EReal :=
  x1 e + ∑ j, headOut (query (nrm x1 g) wq) K V j * wo j e

/-- A grid point's stored rows, of the rows after the mixer. -/
theorem store_at (K V : FVec Ideal S1x256x512 .f32) (e : Fin 2048) :
    k0_pay1 (F := Ideal) x (k0_pay12 (k0_pay10 x (k0_pay6 g) (mulf x x) wq (View.ld K r0_8)))
      (k0_pay13 (k0_pay11 x (k0_pay6 g) (mulf x x) wq (View.ld K r0_9)))
      (k0_pay14 (k0_pay8 x (k0_pay6 g) (mulf x x) wq) (View.ld K r0_10))
      (k0_pay15 (k0_pay9 x (k0_pay6 g) (mulf x x) wq (View.ld K r0_7)) (View.ld V r0_7))
      (k0_pay16 (View.ld V r0_8)) (View.ld V r0_9) (View.ld V r0_10) wo (ix2 r e)
    = attended (fun k => x (ix2 r k)) (fun k => g (ix2 0 k)) (fun k j => wq (ix2 k j)) (fun m j => K (ix3 0 m j))
        (fun m j => V (ix3 0 m j)) (fun j e => wo (ix2 j e)) e := by
  have hq : ∀ j, k0_pay8 (F := Ideal) x (k0_pay6 g) (mulf x x) wq (ix2 r j) = _ := pay8_at x g wq r
  refine pay1_at _ _ _ _ _ _ _ _ _ _ _ _ (fun d => ?_) (fun d => ?_) (fun d => ?_) (fun d => ?_)
  · rw [pay15_at]
    unfold headOut
    congr 1
    · funext m
      rw [pay9_at]
      simp only [hq]
      congr 1
      · funext d'; congr 1; apply Fin.ext; show d'.val = d.val / 128 * 128 + d'.val; omega
      · funext d'; pointwise; congr 2; apply Fin.ext; show d'.val = d.val / 128 * 128 + d'.val; omega
    · funext m; pointwise
  · unfold headOut attn
    have hs : (fun m : Fin 256 => score (fun d' => query (nrm (fun k => x (ix2 r k)) (fun k => g (ix2 0 k))) (fun k j => wq (ix2 k j)) ⟨128 + d'.val, by omega⟩)
          (fun d' => K (ix3 0 m ⟨128 + d'.val, by omega⟩)))
        = fun m => score (fun d' => query (nrm (fun k => x (ix2 r k)) (fun k => g (ix2 0 k))) (fun k j => wq (ix2 k j)) ⟨(128 + d.val) / 128 * 128 + d'.val, by omega⟩)
          (fun d' => K (ix3 0 m ⟨(128 + d.val) / 128 * 128 + d'.val, by omega⟩)) := by
      have ho : (128 + d.val) / 128 * 128 = 128 := by omega
      simp only [ho]
    rw [← hs]
    simp only [pay12_at, pay10_at, hq]
    pointwise
  · unfold headOut attn
    have hs : (fun m : Fin 256 => score (fun d' => query (nrm (fun k => x (ix2 r k)) (fun k => g (ix2 0 k))) (fun k j => wq (ix2 k j)) ⟨256 + d'.val, by omega⟩)
          (fun d' => K (ix3 0 m ⟨256 + d'.val, by omega⟩)))
        = fun m => score (fun d' => query (nrm (fun k => x (ix2 r k)) (fun k => g (ix2 0 k))) (fun k j => wq (ix2 k j)) ⟨(256 + d.val) / 128 * 128 + d'.val, by omega⟩)
          (fun d' => K (ix3 0 m ⟨(256 + d.val) / 128 * 128 + d'.val, by omega⟩)) := by
      have ho : (256 + d.val) / 128 * 128 = 256 := by omega
      simp only [ho]
    rw [← hs]
    simp only [pay13_at, pay11_at, hq]
    pointwise
  · unfold headOut attn
    have hs : (fun m : Fin 256 => score (fun d' => query (nrm (fun k => x (ix2 r k)) (fun k => g (ix2 0 k))) (fun k j => wq (ix2 k j)) ⟨384 + d'.val, by omega⟩)
          (fun d' => K (ix3 0 m ⟨384 + d'.val, by omega⟩)))
        = fun m => score (fun d' => query (nrm (fun k => x (ix2 r k)) (fun k => g (ix2 0 k))) (fun k j => wq (ix2 k j)) ⟨(384 + d.val) / 128 * 128 + d'.val, by omega⟩)
          (fun d' => K (ix3 0 m ⟨(384 + d.val) / 128 * 128 + d'.val, by omega⟩)) := by
      have ho : (384 + d.val) / 128 * 128 = 384 := by omega
      simp only [ho]
    rw [← hs]
    simp only [pay14_at, hq]
    pointwise

end Cert.MixIdeal.Mem

end
-- ==== Proof.Softmax.lean ====
/-
  Real numbers among the extended ones, and the weighted mean of a softmax: dividing each weight by the sum of the
  weights is dividing the weighted sum.
-/
module

public import Idealize.ShloMosaic.PureOps.Ideal
public import Idealize.ShloMosaic.Lib.Pipeline.ValueKit

@[expose] public section

noncomputable section

open Idealize.ShloMosaic

namespace Cert.Softmax

/-- An extended real that is a real number. -/
def Real' (x : EReal) : Prop := ∃ r : ℝ, x = (r : EReal)

/-- A sum of two reals is real. -/
theorem Real'.add {x y : EReal} (hx : Real' x) (hy : Real' y) : Real' (x + y) := by
  obtain ⟨a, rfl⟩ := hx; obtain ⟨b, rfl⟩ := hy; exact ⟨a + b, by push_cast; rfl⟩

/-- A product of two reals is real. -/
theorem Real'.mul {x y : EReal} (hx : Real' x) (hy : Real' y) : Real' (x * y) := by
  obtain ⟨a, rfl⟩ := hx; obtain ⟨b, rfl⟩ := hy; exact ⟨a * b, by push_cast; rfl⟩

/-- A finite sum of reals is the sum taken in the reals. -/
theorem sum_coe {ι : Type} [Fintype ι] (f : ι → ℝ) : (∑ i, (f i : EReal)) = ((∑ i, f i : ℝ) : EReal) := by
  classical
  refine Finset.induction_on (motive := fun s : Finset ι => (∑ i ∈ s, (f i : EReal)) = ((∑ i ∈ s, f i : ℝ) : EReal)) Finset.univ (by simp) ?_
  intro a s ha ih
  rw [Finset.sum_insert ha, Finset.sum_insert ha, ih]; push_cast; rfl

/-- A finite sum of reals is real. -/
theorem Real'.sum {ι : Type} [Fintype ι] {f : ι → EReal} (h : ∀ i, Real' (f i)) : Real' (∑ i, f i) := by
  choose g hg using h
  exact ⟨∑ i, g i, by rw [← sum_coe]; exact Finset.sum_congr rfl fun i _ => hg i⟩

/-- Neither infinity: a real. -/
theorem Real'.of_ne {x : EReal} (h : ⊥ < x) (h' : x < ⊤) : Real' x := by
  induction x with
  | bot => exact absurd h (lt_irrefl _)
  | top => exact absurd h' (lt_irrefl _)
  | coe r => exact ⟨r, rfl⟩

/-- The largest of finitely many reals, at least one, is real. -/
theorem Real'.max {ι : Type} [Fintype ι] [Nonempty ι] {s : ι → EReal} (h : ∀ i, Real' (s i)) :
    Real' (Finset.fold max ⊥ s Finset.univ) := by
  refine Real'.of_ne ?_ ?_
  · obtain ⟨i⟩ := ‹Nonempty ι›
    obtain ⟨r, hr⟩ := h i
    exact (Finset.lt_fold_max _).mpr (Or.inr ⟨i, Finset.mem_univ _, by rw [hr]; exact EReal.bot_lt_coe r⟩)
  · refine (Finset.fold_max_lt _).mpr ⟨bot_lt_top, fun i _ => ?_⟩
    obtain ⟨r, hr⟩ := h i
    rw [hr]; exact EReal.coe_lt_top r

/-- Dividing the sum of weighted values by a positive real is weighting by the divided weights. -/
theorem div_sum {ι : Type} [Fintype ι] (p v : ι → EReal) {D : ℝ} (hD : 0 < D) :
    (∑ i, v i * Ideal.div (p i) (D : EReal)) = Ideal.div (∑ i, p i * v i) (D : EReal) := by
  classical
  have hne : (D : EReal) ≠ 0 := by exact_mod_cast hD.ne'
  have hinv : (D : EReal)⁻¹ = ((D⁻¹ : ℝ) : EReal) := (EReal.coe_inv D).symm
  have h0 : (0 : EReal) ≤ ((D⁻¹ : ℝ) : EReal) := by exact_mod_cast (inv_pos.mpr hD).le
  have ht : ((D⁻¹ : ℝ) : EReal) ≠ ⊤ := EReal.coe_ne_top _
  have hd : ∀ x : EReal, Ideal.div x (D : EReal) = x * ((D⁻¹ : ℝ) : EReal) := fun x => by
    unfold Ideal.div; rw [if_neg hne, hinv]
  simp only [hd]
  refine Finset.induction_on (motive := fun s : Finset ι => (∑ i ∈ s, v i * (p i * ((D⁻¹ : ℝ) : EReal))) = (∑ i ∈ s, p i * v i) * ((D⁻¹ : ℝ) : EReal))
    Finset.univ (by simp) ?_
  intro a s ha ih
  rw [Finset.sum_insert ha, Finset.sum_insert ha, ih, EReal.right_distrib_of_nonneg_of_ne_top h0 ht]
  congr 1
  rw [← mul_assoc, mul_comm (v a)]

/-- The exponentials of reals less their largest are reals of a positive sum. -/
theorem exp_sum {ι : Type} [Fintype ι] [Nonempty ι] {s : ι → EReal} (h : ∀ i, Real' (s i)) {M : EReal} (hM : Real' M) :
    ∃ D : ℝ, 0 < D ∧ (∑ i, Ideal.exp (s i - M)) = (D : EReal) := by
  choose g hg using h
  obtain ⟨a, ha⟩ := hM
  refine ⟨∑ i, Real.exp (g i - a), Finset.sum_pos (fun i _ => Real.exp_pos _) Finset.univ_nonempty, ?_⟩
  rw [← sum_coe]
  refine Finset.sum_congr rfl fun i _ => ?_
  rw [hg i, ha, ← EReal.coe_sub]
  rfl

/-- The mean of values weighted by the softmax of real scores: each weight divided, or the weighted sum. -/
theorem mean {ι : Type} [Fintype ι] [Nonempty ι] {s : ι → EReal} (h : ∀ i, Real' (s i)) (v : ι → EReal) {M : EReal} (hM : Real' M) :
    (∑ i, v i * Ideal.div (Ideal.exp (s i - M)) (∑ j, Ideal.exp (s j - M)))
      = Ideal.div (∑ i, Ideal.exp (s i - M) * v i) (∑ j, Ideal.exp (s j - M)) := by
  obtain ⟨D, hD, e⟩ := exp_sum h hM
  rw [e]
  exact div_sum _ v hD

/-- A row of reals, normalised by its root mean square and scaled by a real gain, is real. -/
theorem rsqrt_real {x : EReal} (h : ∃ r : ℝ, 0 < r ∧ x = (r : EReal)) : Real' (Ideal.rsqrt x) := by
  obtain ⟨r, hr, rfl⟩ := h
  refine ⟨(Real.sqrt r)⁻¹, ?_⟩
  show (if r < 0 then ⊥ else if r = 0 then ⊤ else (((Real.sqrt r)⁻¹ : ℝ) : EReal)) = _
  rw [if_neg (not_lt.mpr hr.le), if_neg hr.ne']

/-- The constant of negative infinity. -/
theorem neg_inf : Ideal.ofBits FTy.f32 0xFF800000#32 = ⊥ := by
  simp [Ideal.ofBits, Ideal.ieee]

/-- The constant of positive infinity. -/
theorem pos_inf : Ideal.ofBits FTy.f32 0x7F800000#32 = ⊤ := by
  simp [Ideal.ofBits, Ideal.ieee]

/-- The number of columns, 2048. -/
theorem cols : Ideal.ofBits FTy.f32 0x45000000#32 = ((2048 : ℝ) : EReal) := by
  simp [Ideal.ofBits, Ideal.ieee]; rw [← EReal.coe_mul]; norm_num

/-- The number added to the mean of squares is positive. -/
theorem eps : ∃ r : ℝ, 0 < r ∧ Ideal.ofBits FTy.f32 0x358637BD#32 = (r : EReal) := by
  refine ⟨8796093 * 2 ^ (-43 : ℤ), by positivity, ?_⟩
  simp [Ideal.ofBits, Ideal.ieee]

/-- The scale of the scores is real. -/
theorem scale : Real' (Ideal.ofBits FTy.f32 0x3DB504F3#32) := by
  refine ⟨11863283 * 2 ^ (-27 : ℤ), ?_⟩
  simp [Ideal.ofBits, Ideal.ieee]

/-- The factor of a row of reals in the norm is real. -/
theorem rms_real {row : Fin 2048 → EReal} (h : ∀ k, Real' (row k)) :
    Real' (Ideal.rsqrt (Ideal.div (∑ l, row l * row l) (Ideal.ofBits FTy.f32 0x45000000#32) + Ideal.ofBits FTy.f32 0x358637BD#32)) := by
  choose g hg using h
  obtain ⟨e, he, hE⟩ := eps
  refine rsqrt_real ⟨(∑ l, g l * g l) * (2048 : ℝ)⁻¹ + e, ?_, ?_⟩
  · have : 0 ≤ ∑ l, g l * g l := Finset.sum_nonneg fun l _ => mul_self_nonneg _
    positivity
  · rw [hE, cols]
    have hs : (∑ l, row l * row l) = ((∑ l, g l * g l : ℝ) : EReal) := by
      rw [← sum_coe]; refine Finset.sum_congr rfl fun l _ => ?_; rw [hg l]; push_cast; rfl
    rw [hs]
    unfold Ideal.div
    rw [if_neg (by norm_num), ← EReal.coe_inv]
    push_cast; rfl

/-- What "greater than minus infinity and less than infinity" says of every entry: it is real. -/
theorem real_of_finite {S : Shape} (x : FVec Ideal S .f32) (hb : (⟨0, ![]⟩ : Shape).BroadcastsInDim S (![] : Fin 0 → Fin S.rank))
    (h : andi (cmpf .ogt x (broadcastInDim S ![] hb (constant ⟨0, ![]⟩ .f32 0xFF800000#32)))
      (cmpf .olt x (broadcastInDim S ![] hb (constant ⟨0, ![]⟩ .f32 0x7F800000#32))) = fun _ => 1#1) (i : S.Idx) : Real' (x i) := by
  have e : IntOp.andi (BitVec.ofBool (decide (Ideal.ofBits FTy.f32 0xFF800000#32 < x i))) (BitVec.ofBool (decide (x i < Ideal.ofBits FTy.f32 0x7F800000#32))) = 1#1 :=
    congrFun h i
  rw [neg_inf, pos_inf] at e
  by_cases h1 : ⊥ < x i
  · by_cases h2 : x i < ⊤
    · exact Real'.of_ne h1 h2
    · simp [h1, h2, IntOp.andi] at e
  · simp [h1, IntOp.andi] at e

end Cert.Softmax

end
-- ==== Proof.MixRef.lean ====
/-
  The reference's output projection and attention to the memory, part by part, entry by entry.
-/
module

public import proofs.«01_k».proof.Proof.MixCases
public import proofs.«01_k».proof.Proof.Softmax
public import proofs.«01_k».proof.Proof.Gen.MixRefIdeal.Run

@[expose] public section

set_option maxRecDepth 16384

noncomputable section

open Idealize.ShloMosaic Idealize.ShloMosaic.TcCoe Idealize.SL.Sem
open Idealize.ShloMosaic.Pipeline (Dat)

namespace Cert.MixRefIdeal.Mem

open Cert.MixRefIdeal Cert.MixIdeal.Mem Cert.Softmax

variable (X : FVec Ideal S4x4096x2048 .f32) (A B : FVec Ideal S4x4096x1024 .f32) (W : FVec Ideal S1x2048x2048 .f32)
  (G : FVec Ideal S1x2048 .f32) (g : FVec Ideal S2048 .f32) (Wq : FVec Ideal S1x2048x512 .f32) (Wo : FVec Ideal S1x512x2048 .f32)
  (K V : FVec Ideal S4x256x4x128 .f32) (b : Fin 4) (l : Fin 4096)

/-- The rows and the mixer's output, projected. -/
def mixT : FVec Ideal S4x4096x2048 .f32 :=
  addf X (Host.dotGeneral (F := Ideal) dot_S4x4096x2048_S2048x2048_S4x4096x2048_2_0_01_1_n_n none
    (concatenate S4x4096x2048 2 [⟨S4x4096x1024, A⟩, ⟨S4x4096x1024, B⟩] Gen.concatenates_S4x4096x1024_S4x4096x1024_S4x4096x2048_d2)
    (shapeCast _ W Gen.shapeCasts_S1x2048x2048_S2048x2048))

/-- The same at an index: the product falls into the two halves of the mixer's output. -/
theorem mixT_at (e : Fin 2048) : mixT X A B W (ix3 b l e)
    = mixed (fun k => X (ix3 b l k)) (fun k => A (ix3 b l k)) (fun k => B (ix3 b l k))
        (fun k e => W (ix3 0 ⟨k.val, by omega⟩ e)) (fun k e => W (ix3 0 ⟨1024 + k.val, by omega⟩ e)) e := by
  pointwise [mixT, mixed]
  rw [add_assoc]

/-- The reference's norm of every row. -/
def normT : FVec Ideal S4x4096x2048 .f32 :=
  mulf (mulf X (broadcastInDim S4x4096x2048 ![0, 1, 2] Gen.bcast_S4x4096x1_S4x4096x2048_0_1_2
      (Host.rsqrt (addf (Host.divf (broadcastInDim S4x4096x1 ![0, 1] Gen.bcast_S4x4096_S4x4096x1_0_1
        (Host.reduceAdd (mulf X X) (constant S_ .f32 0x00000000#32) Gen.reducesTo_S4x4096x2048_S4x4096_d2 Gen.h_S_))
        (broadcastInDim S4x4096x1 ![] Gen.bcast_S_S4x4096x1 (constant S_ .f32 0x45000000#32)))
        (broadcastInDim S4x4096x1 ![] Gen.bcast_S_S4x4096x1 (constant S_ .f32 0x358637BD#32))))))
    (broadcastInDim S4x4096x2048 ![0, 1, 2] Gen.bcast_S1x1x2048_S4x4096x2048_0_1_2
      (broadcastInDim S1x1x2048 ![2] Gen.bcast_S2048_S1x1x2048_2 g))

/-- The norm at an index. -/
theorem normT_at (k : Fin 2048) : normT X g (ix3 b l k) = nrm (fun k => X (ix3 b l k)) (fun k => g (ix1 k)) k := by
  pointwise [normT, nrm]

/-- The reference's queries, the heads apart. -/
def queryT : FVec Ideal S4x4096x4x128 .f32 :=
  shapeCast _ (Host.dotGeneral (F := Ideal) dot_S4x4096x2048_S2048x512_S4x4096x512_2_0_01_1_n_n none X
    (shapeCast _ Wq Gen.shapeCasts_S1x2048x512_S2048x512)) Gen.shapeCasts_S4x4096x512_S4x4096x4x128

/-- The query at an index. -/
theorem queryT_at (h : Fin 4) (d : Fin 128) : queryT X Wq (ix4 b l h d)
    = query (fun k => X (ix3 b l k)) (fun k j => Wq (ix3 0 k j)) ⟨h.val * 128 + d.val, by omega⟩ := by
  pointwise [queryT, query]

/-- The reference's scores. -/
def scoreT (Q : FVec Ideal S4x4096x4x128 .f32) : FVec Ideal S4x4x4096x256 .f32 :=
  mulf (Host.dotGeneral (F := Ideal) dot_S4x4096x4x128_S4x256x4x128_S4x4x4096x256_3_3_1_1_02_02 none Q K)
    (broadcastInDim S4x4x4096x256 ![] Gen.bcast_S_S4x4x4096x256 (constant S_ .f32 0x3DB504F3#32))

/-- The score at an index. -/
theorem scoreT_at (Q : FVec Ideal S4x4096x4x128 .f32) (h : Fin 4) (m : Fin 256) : scoreT K Q (ix4 b h l m)
    = score (fun d => Q (ix4 b l h d)) (fun d => K (ix4 b m h d)) := by
  pointwise [scoreT, score]

/-- The largest score of a row. -/
def maxT (S : FVec Ideal S4x4x4096x256 .f32) : FVec Ideal S4x4x4096 .f32 :=
  Host.reduce FloatOps.maximumf S (constant S_ .f32 0xFF800000#32) Gen.reducesTo_S4x4x4096x256_S4x4x4096_d3 Gen.h_S_

/-- The largest score at an index. -/
theorem maxT_at (S : FVec Ideal S4x4x4096x256 .f32) (h : Fin 4) : maxT S (ix3 b h l)
    = Finset.fold max (Ideal.ofBits FTy.f32 0xFF800000#32) (fun m : Fin 256 => S (ix4 b h l m)) Finset.univ := by
  unfold maxT
  rw [Host.reduce_eq_fold]
  exact Shape.ReducesTo.fold_fiber_r4_a3 (n0 := 4) (n1 := 4) (n2 := 4096) (n3 := 256) Gen.reducesTo_S4x4x4096x256_S4x4x4096_d3 (ix3 b h l) _ _ _

/-- The reference's exponentials, of scores and of the largest of each row. -/
def expT (S : FVec Ideal S4x4x4096x256 .f32) (M : FVec Ideal S4x4x4096 .f32) : FVec Ideal S4x4x4096x256 .f32 :=
  Host.exp (subf S (broadcastInDim S4x4x4096x256 ![0, 1, 2, 3] Gen.bcast_S4x4x4096x1_S4x4x4096x256_0_1_2_3
    (broadcastInDim S4x4x4096x1 ![0, 1, 2] Gen.bcast_S4x4x4096_S4x4x4096x1_0_1_2
      (maximumf (broadcastInDim S4x4x4096 ![] Gen.bcast_S_S4x4x4096 (constant S_ .f32 0xFF800000#32)) M))))

/-- The exponential at an index. -/
theorem expT_at (S : FVec Ideal S4x4x4096x256 .f32) (M : FVec Ideal S4x4x4096 .f32) (h : Fin 4) (m : Fin 256) :
    expT S M (ix4 b h l m) = Ideal.exp (S (ix4 b h l m) - max (Ideal.ofBits FTy.f32 0xFF800000#32) (M (ix3 b h l))) := by
  pointwise [expT]

/-- The exponential at an index, of the scores. -/
theorem expT_max (S : FVec Ideal S4x4x4096x256 .f32) (h : Fin 4) (m : Fin 256) : expT S (maxT S) (ix4 b h l m)
    = pexp (fun m => S (ix4 b h l m)) m := by
  refine (expT_at b l S (maxT S) h m).trans ?_
  have hb : ∀ x : EReal, max (Ideal.ofBits FTy.f32 0xFF800000#32) x = x := fun x => by rw [neg_inf]; exact max_eq_right bot_le
  unfold pexp
  exact congrArg (fun z => Ideal.exp (S (ix4 b h l m) - z)) ((hb _).trans (maxT_at b l S h))

/-- The reference's weights. -/
def probT (P : FVec Ideal S4x4x4096x256 .f32) : FVec Ideal S4x4x4096x256 .f32 :=
  Host.divf P (broadcastInDim S4x4x4096x256 ![0, 1, 2, 3] Gen.bcast_S4x4x4096x1_S4x4x4096x256_0_1_2_3
    (broadcastInDim S4x4x4096x1 ![0, 1, 2] Gen.bcast_S4x4x4096_S4x4x4096x1_0_1_2
      (Host.reduceAdd P (constant S_ .f32 0x00000000#32) Gen.reducesTo_S4x4x4096x256_S4x4x4096_d3 Gen.h_S_)))

/-- The weight at an index. -/
theorem probT_at (P : FVec Ideal S4x4x4096x256 .f32) (h : Fin 4) (m : Fin 256) : probT P (ix4 b h l m)
    = Ideal.div (P (ix4 b h l m)) (∑ x, P (ix4 b h l x)) := by
  pointwise [probT]

/-- The heads' means side by side. -/
def headT (P : FVec Ideal S4x4x4096x256 .f32) : FVec Ideal S4x4096x512 .f32 :=
  shapeCast _ (transpose S4x4096x4x128 [0, 3, 1, 2]
    (Host.dotGeneral (F := Ideal) dot_S4x256x4x128_S4x4x4096x256_S4x4x128x4096_1_3_3_2_02_01 none V P)
    Gen.transposes_S4x4x128x4096_S4x4096x4x128_0_3_1_2) Gen.shapeCasts_S4x4096x4x128_S4x4096x512

/-- The means at an index. -/
theorem headT_at (P : FVec Ideal S4x4x4096x256 .f32) (j : Fin 512) : headT V P (ix3 b l j)
    = ∑ m, V (ix4 b m ⟨j.val / 128, by omega⟩ ⟨j.val % 128, Nat.mod_lt _ (by omega)⟩) * P (ix4 b ⟨j.val / 128, by omega⟩ l m) := by
  pointwise [headT]

/-- The rows and the attention's output, projected. -/
def projT (O : FVec Ideal S4x4096x512 .f32) : FVec Ideal S4x4096x2048 .f32 :=
  addf X (Host.dotGeneral (F := Ideal) dot_S4x4096x512_S512x2048_S4x4096x2048_2_0_01_1_n_n none O
    (shapeCast _ Wo Gen.shapeCasts_S1x512x2048_S512x2048))

/-- The same at an index. -/
theorem projT_at (O : FVec Ideal S4x4096x512 .f32) (e : Fin 2048) : projT X Wo O (ix3 b l e)
    = X (ix3 b l e) + ∑ j, O (ix3 b l j) * Wo (ix3 0 j e) := by
  pointwise [projT]

/-- The reference's scores, of the arguments. -/
def scoresT : FVec Ideal S4x4x4096x256 .f32 :=
  scoreT K (queryT (normT (mixT X A B W) (shapeCast _ G Gen.shapeCasts_S1x2048_S2048)) Wq)

/-- The reference's first result, its parts named. -/
def refT : FVec Ideal S16384x2048 .f32 :=
  shapeCast _ (projT (mixT X A B W) Wo (headT V (probT (expT (scoresT X A B W G Wq K) (maxT (scoresT X A B W G Wq K)))))) Gen.shapeCasts_S4x4096x2048_S16384x2048

/-- The run's first result is that term of the arguments. -/
theorem res_eq (m' : (ℓ : Loc nD τ sig) → Buf (Elt Ideal) ℓ) (c : Dev nD) :
    Value.res_main_v41 m' c = refT (m' ((c : Thread nD τ).loc main_arg0)) (m' ((c : Thread nD τ).loc main_arg1))
      (m' ((c : Thread nD τ).loc main_arg2)) (m' ((c : Thread nD τ).loc main_arg3)) (m' ((c : Thread nD τ).loc main_arg4))
      (m' ((c : Thread nD τ).loc main_arg5)) (m' ((c : Thread nD τ).loc main_arg6)) (m' ((c : Thread nD τ).loc main_arg7))
      (m' ((c : Thread nD τ).loc main_arg8)) := rfl

end Cert.MixRefIdeal.Mem

end
-- ==== Proof.MixRefAt.lean ====
/-
  The reference's output projection and attention to the memory, from real scores.
-/
module

public import proofs.«01_k».proof.Proof.MixRef

@[expose] public section

set_option maxRecDepth 16384

noncomputable section

open Idealize.ShloMosaic Idealize.ShloMosaic.TcCoe Idealize.SL.Sem
open Idealize.ShloMosaic.Pipeline (Dat)

namespace Cert.MixRefIdeal.Mem

open Cert.MixRefIdeal Cert.MixIdeal.Mem Cert.Softmax

variable (X : FVec Ideal S4x4096x2048 .f32) (A B : FVec Ideal S4x4096x1024 .f32) (W : FVec Ideal S1x2048x2048 .f32)
  (G : FVec Ideal S1x2048 .f32) (g : FVec Ideal S2048 .f32) (Wq : FVec Ideal S1x2048x512 .f32) (Wo : FVec Ideal S1x512x2048 .f32)
  (K V : FVec Ideal S4x256x4x128 .f32) (b : Fin 4) (l : Fin 4096)

/-- The rows after the mixer, at a row. -/
abbrev mixRow (e : Fin 2048) : EReal :=
  mixed (fun k => X (ix3 b l k)) (fun k => A (ix3 b l k)) (fun k => B (ix3 b l k))
    (fun k e => W (ix3 0 ⟨k.val, by omega⟩ e)) (fun k e => W (ix3 0 ⟨1024 + k.val, by omega⟩ e)) e

/-- The query of a row. -/
abbrev qRow (j : Fin 512) : EReal :=
  query (nrm (mixRow X A B W b l) (fun k => G (ix2 0 k))) (fun k j => Wq (ix3 0 k j)) j

/-- The reference's score at an index. -/
theorem scoresT_at (h : Fin 4) (m : Fin 256) : scoresT X A B W G Wq K (ix4 b h l m)
    = score (fun d => qRow X A B W G Wq b l ⟨h.val * 128 + d.val, by omega⟩) (fun d => K (ix4 b m h d)) := by
  unfold scoresT
  rw [scoreT_at]
  simp only [queryT_at, normT_at, mixT_at]
  have hG : (fun k : Fin 2048 => shapeCast S2048 G Gen.shapeCasts_S1x2048_S2048 (ix1 k)) = fun k => G (ix2 0 k) := by
    funext k; pointwise
  rw [hG]

/-- From real arguments the scores are real. -/
theorem scores_real (hX : ∀ b l k, Real' (X (ix3 b l k))) (hA : ∀ b l k, Real' (A (ix3 b l k))) (hB : ∀ b l k, Real' (B (ix3 b l k)))
    (hW : ∀ k e, Real' (W (ix3 0 k e))) (hG : ∀ k, Real' (G (ix2 0 k))) (hQ : ∀ k j, Real' (Wq (ix3 0 k j)))
    (hK : ∀ b m h d, Real' (K (ix4 b m h d))) (q : Fin 4) (m : Fin 256) :
    Real' (score (fun d => qRow X A B W G Wq b l ⟨q.val * 128 + d.val, by omega⟩) (fun d => K (ix4 b m q d))) := by
  have hm : ∀ e, Real' (mixRow X A B W b l e) := fun e =>
    ((hX _ _ _).add (Real'.sum fun k => (hA _ _ _).mul (hW _ _))).add (Real'.sum fun k => (hB _ _ _).mul (hW _ _))
  exact (Real'.sum fun d => (Real'.sum fun k => (((hm k).mul (rms_real hm)).mul (hG k)).mul (hQ _ _)).mul (hK _ _ _ _)).mul scale

/-- The reference's first result at row `R`, entry `e`, from real scores. -/
theorem refT_at (R : Fin 16384) (e : Fin 2048) (b : Fin 4) (l : Fin 4096) (hb : b.val = R.val / 4096) (hl : l.val = R.val % 4096)
    (hs : ∀ (q : Fin 4) (m : Fin 256), Real' (score (fun d => qRow X A B W G Wq b l ⟨q.val * 128 + d.val, by omega⟩) (fun d => K (ix4 b m q d)))) :
    refT X A B W G Wq Wo K V (ix2 R e) = attended (mixRow X A B W b l) (fun k => G (ix2 0 k)) (fun k j => Wq (ix3 0 k j))
      (fun m j => K (ix4 b m ⟨j.val / 128, by omega⟩ ⟨j.val % 128, Nat.mod_lt _ (by omega)⟩))
      (fun m j => V (ix4 b m ⟨j.val / 128, by omega⟩ ⟨j.val % 128, Nat.mod_lt _ (by omega)⟩)) (fun j e => Wo (ix3 0 j e)) e := by
  have e1 : refT X A B W G Wq Wo K V (ix2 R e)
      = projT (mixT X A B W) Wo (headT V (probT (expT (scoresT X A B W G Wq K) (maxT (scoresT X A B W G Wq K)))))
          (ix3 ⟨R.val / 4096, by omega⟩ ⟨R.val % 4096, Nat.mod_lt _ (by omega)⟩ e) := by
    pointwise [refT]
  rw [e1, show (⟨R.val / 4096, by omega⟩ : Fin 4) = b from Fin.ext hb.symm,
    show (⟨R.val % 4096, Nat.mod_lt _ (by omega)⟩ : Fin 4096) = l from Fin.ext hl.symm, projT_at, mixT_at]
  unfold attended
  refine congrArg (mixRow X A B W b l e + ·) (Finset.sum_congr rfl fun j _ => congrArg (· * Wo (ix3 0 j e)) ?_)
  rw [headT_at]
  simp only [probT_at, expT_max, scoresT_at]
  have hk := fun m => hs ⟨j.val / 128, by omega⟩ m
  have hM := Real'.max hk
  rw [← neg_inf] at hM
  refine (mean hk _ hM).trans ?_
  unfold headOut attn pexp
  have hd : ∀ d : Fin 128, (j.val / 128 * 128 + d.val) / 128 = j.val / 128 ∧ (j.val / 128 * 128 + d.val) % 128 = d.val := fun d => by omega
  simp only [hd]

end Cert.MixRefIdeal.Mem

end
-- ==== Proof.MixValue.lean ====
/-
  The output projection of the mixer and the attention to the memory: the arrays after the run.
-/
module

public import proofs.«01_k».proof.Proof.MixRefAt

@[expose] public section

set_option maxRecDepth 16384

noncomputable section

open Idealize.ShloMosaic Idealize.ShloMosaic.TcCoe Idealize.SL.Sem
open Idealize.ShloMosaic.Pipeline (Dat)

namespace Cert.MixIdeal.Mem

open Cert.MixIdeal Cert.MixIdeal.Gen Cert.Softmax

variable (m : (ℓ : Loc nD τ sig) → Buf (Elt Ideal) ℓ)

/-- The block indices of the windows. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val / 8, 0, 0] ∧ win0_9.index t = ![t.val / 8, 0, 0] ∧ win0_10.index t = ![t.val, 0]
    ∧ win0_11.index t = ![t.val, 0] ∧ win0_12.index t = ![t.val, 0] ∧ win0_13.index t = ![t.val, 0] ∧ win0_14.index t = ![t.val, 0]
    ∧ win0_15.index t = ![t.val, 0] ∧ win0_16.index t = ![t.val, 0] :=
  (by decide +kernel : ∀ t : Fin grid0.N, _)

/-- Where row `r`, entry `e` of output block 13 of grid point `t` lies in the array. -/
theorem emb_o (t : Fin cfg0.N) (r : Fin 512) (e : Fin 2048) (h : t.val * 512 + r.val < 16384) :
    ((cfg0.win 13).blk t).view.emb (ix2 r e : S512x2048.Idx) = (ix2 ⟨t.val * 512 + r.val, h⟩ e : S16384x2048.Idx) := by
  blk_ext [idx t]

/-- Where row `r`, entry `e` of output block 14 of grid point `t` lies in the array. -/
theorem emb_g (t : Fin cfg0.N) (r : Fin 64) (e : Fin 5632) (h : t.val * 64 + r.val < 2048) :
    ((cfg0.win 14).blk t).view.emb (ix2 r e : S64x5632.Idx) = (ix2 ⟨t.val * 64 + r.val, h⟩ e : S2048x5632.Idx) := by
  blk_ext [idx t]

/-- Where row `r`, entry `e` of output block 15 of grid point `t` lies in the array. -/
theorem emb_u (t : Fin cfg0.N) (r : Fin 64) (e : Fin 5632) (h : t.val * 64 + r.val < 2048) :
    ((cfg0.win 15).blk t).view.emb (ix2 r e : S64x5632.Idx) = (ix2 ⟨t.val * 64 + r.val, h⟩ e : S2048x5632.Idx) := by
  blk_ext [idx t]

/-- Where row `r`, entry `e` of output block 16 of grid point `t` lies in the array. -/
theorem emb_d (t : Fin cfg0.N) (r : Fin 176) (e : Fin 2048) (h : t.val * 176 + r.val < 5632) :
    ((cfg0.win 16).blk t).view.emb (ix2 r e : S176x2048.Idx) = (ix2 ⟨t.val * 176 + r.val, h⟩ e : S5632x2048.Idx) := by
  blk_ext [idx t]

/-- A staged row of operand 0. -/
theorem bx_at (c : Dev nD) (t : Fin cfg0.N) (r : Fin 512) (k : Fin 2048) (h : (t.val * 512 + r.val) / 4096 < 4) :
    iblk m c 0 t (ix2 r k : S512x2048.Idx) = m ((c : Thread nD τ).loc main_arg0) (ix3 ⟨(t.val * 512 + r.val) / 4096, h⟩ ⟨(t.val * 512 + r.val) % 4096, Nat.mod_lt _ (by omega)⟩ k : S4x4096x2048.Idx) := by
  blk_simp [iblk]; entry_read; pointwise; blk_ext [iblk, V, idx t]

/-- A staged row of operand 1. -/
theorem ba_at (c : Dev nD) (t : Fin cfg0.N) (r : Fin 512) (k : Fin 1024) (h : (t.val * 512 + r.val) / 4096 < 4) :
    iblk m c 1 t (ix2 r k : S512x1024.Idx) = m ((c : Thread nD τ).loc main_arg1) (ix3 ⟨(t.val * 512 + r.val) / 4096, h⟩ ⟨(t.val * 512 + r.val) % 4096, Nat.mod_lt _ (by omega)⟩ k : S4x4096x1024.Idx) := by
  blk_simp [iblk]; entry_read; pointwise; blk_ext [iblk, V, idx t]

/-- A staged row of operand 2. -/
theorem bb_at (c : Dev nD) (t : Fin cfg0.N) (r : Fin 512) (k : Fin 1024) (h : (t.val * 512 + r.val) / 4096 < 4) :
    iblk m c 2 t (ix2 r k : S512x1024.Idx) = m ((c : Thread nD τ).loc main_arg2) (ix3 ⟨(t.val * 512 + r.val) / 4096, h⟩ ⟨(t.val * 512 + r.val) % 4096, Nat.mod_lt _ (by omega)⟩ k : S4x4096x1024.Idx) := by
  blk_simp [iblk]; entry_read; pointwise; blk_ext [iblk, V, idx t]

/-- The staged first half of the output weights. -/
theorem bwa_at (c : Dev nD) (t : Fin cfg0.N) (k : Fin 1024) (e : Fin 2048) :
    iblk m c 3 t (ix2 k e : S1024x2048.Idx) = m ((c : Thread nD τ).loc main_arg3) (ix3 0 ⟨k.val, by omega⟩ e : S1x2048x2048.Idx) := by
  blk_simp [iblk]; entry_read; pointwise; blk_ext [iblk, V, idx t]

/-- The staged second half of the output weights. -/
theorem bwb_at (c : Dev nD) (t : Fin cfg0.N) (k : Fin 1024) (e : Fin 2048) :
    iblk m c 4 t (ix2 k e : S1024x2048.Idx) = m ((c : Thread nD τ).loc main_arg3) (ix3 0 ⟨1024 + k.val, by omega⟩ e : S1x2048x2048.Idx) := by
  blk_simp [iblk]; entry_read; pointwise; blk_ext [iblk, V, idx t]

/-- The staged gain. -/
theorem bg_at (c : Dev nD) (t : Fin cfg0.N) (k : Fin 2048) :
    iblk m c 5 t (ix2 0 k : S1x2048.Idx) = m ((c : Thread nD τ).loc main_arg4) (ix2 0 k : S1x2048.Idx) := by
  blk_simp [iblk]; entry_read; pointwise; blk_ext [iblk, V, idx t]

/-- The staged query weights. -/
theorem bwq_at (c : Dev nD) (t : Fin cfg0.N) (k : Fin 2048) (j : Fin 512) :
    iblk m c 6 t (ix2 k j : S2048x512.Idx) = m ((c : Thread nD τ).loc main_arg5) (ix3 0 k j : S1x2048x512.Idx) := by
  blk_simp [iblk]; entry_read; pointwise; blk_ext [iblk, V, idx t]

/-- The staged weights of the attention's output. -/
theorem bwo_at (c : Dev nD) (t : Fin cfg0.N) (j : Fin 512) (e : Fin 2048) :
    iblk m c 7 t (ix2 j e : S512x2048.Idx) = m ((c : Thread nD τ).loc main_arg6) (ix3 0 j e : S1x512x2048.Idx) := by
  blk_simp [iblk]; entry_read; pointwise; blk_ext [iblk, V, idx t]

/-- A staged row of the memory, operand 8. -/
theorem bk_at (c : Dev nD) (t : Fin cfg0.N) (x : Fin 256) (j : Fin 512) (h : t.val / 8 < 4) :
    iblk m c 8 t (ix3 0 x j : S1x256x512.Idx) = m ((c : Thread nD τ).loc main_arg7) (ix4 ⟨t.val / 8, h⟩ x ⟨j.val / 128, by omega⟩ ⟨j.val % 128, Nat.mod_lt _ (by omega)⟩ : S4x256x4x128.Idx) := by
  blk_simp [iblk]; entry_read; pointwise; blk_ext [iblk, V, idx t]

/-- A staged row of the memory, operand 9. -/
theorem bv_at (c : Dev nD) (t : Fin cfg0.N) (x : Fin 256) (j : Fin 512) (h : t.val / 8 < 4) :
    iblk m c 9 t (ix3 0 x j : S1x256x512.Idx) = m ((c : Thread nD τ).loc main_arg8) (ix4 ⟨t.val / 8, h⟩ x ⟨j.val / 128, by omega⟩ ⟨j.val % 128, Nat.mod_lt _ (by omega)⟩ : S4x256x4x128.Idx) := by
  blk_simp [iblk]; entry_read; pointwise; blk_ext [iblk, V, idx t]

/-- A staged slab of feed-forward weights, operand 10. -/
theorem bsg_at (c : Dev nD) (t : Fin cfg0.N) (r : Fin 64) (e : Fin 5632) (h : t.val * 64 + r.val < 2048) :
    iblk m c 10 t (ix2 r e : S64x5632.Idx) = m ((c : Thread nD τ).loc main_arg9) (ix3 0 ⟨t.val * 64 + r.val, h⟩ e : S1x2048x5632.Idx) := by
  blk_simp [iblk]; entry_read; pointwise; blk_ext [iblk, V, idx t]

/-- A staged slab of feed-forward weights, operand 11. -/
theorem bsu_at (c : Dev nD) (t : Fin cfg0.N) (r : Fin 64) (e : Fin 5632) (h : t.val * 64 + r.val < 2048) :
    iblk m c 11 t (ix2 r e : S64x5632.Idx) = m ((c : Thread nD τ).loc main_arg10) (ix3 0 ⟨t.val * 64 + r.val, h⟩ e : S1x2048x5632.Idx) := by
  blk_simp [iblk]; entry_read; pointwise; blk_ext [iblk, V, idx t]

/-- A staged slab of feed-forward weights, operand 12. -/
theorem bsd_at (c : Dev nD) (t : Fin cfg0.N) (r : Fin 176) (e : Fin 2048) (h : t.val * 176 + r.val < 5632) :
    iblk m c 12 t (ix2 r e : S176x2048.Idx) = m ((c : Thread nD τ).loc main_arg11) (ix3 0 ⟨t.val * 176 + r.val, h⟩ e : S1x5632x2048.Idx) := by
  blk_simp [iblk]; entry_read; pointwise; blk_ext [iblk, V, idx t]

/-- The scores of the arguments are real. -/
def RealScores (c : Dev nD) : Prop := ∀ (b : Fin 4) (l : Fin 4096) (q : Fin 4) (x : Fin 256),
  Real' (score (fun d => MixRefIdeal.Mem.qRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b l ⟨q.val * 128 + d.val, by omega⟩)
    (fun d => m ((c : Thread nD τ).loc main_arg7) (ix4 b x q d : S4x256x4x128.Idx)))

/-- A grid point's stored rows, of the arguments. -/
theorem point (c : Dev nD) (hs : RealScores m c) (t : Fin cfg0.N) (r : Fin 512) (e : Fin 2048) (h : t.val * 512 + r.val < 16384) :
    attended (fun k => k0_pay5 (F := Ideal) (iblk m c 0 t) (iblk m c 1 t) (iblk m c 3 t) (iblk m c 2 t) (iblk m c 4 t) (ix2 r k))
      (fun k => iblk m c 5 t (ix2 0 k : S1x2048.Idx)) (fun k j => iblk m c 6 t (ix2 k j : S2048x512.Idx))
      (fun x j => iblk m c 8 t (ix3 0 x j : S1x256x512.Idx)) (fun x j => iblk m c 9 t (ix3 0 x j : S1x256x512.Idx))
      (fun j e => iblk m c 7 t (ix2 j e : S512x2048.Idx)) e
    = MixRefIdeal.Mem.refT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 ⟨t.val * 512 + r.val, h⟩ e) := by
  have ht : t.val < 32 := t.isLt
  have h4 : (t.val * 512 + r.val) / 4096 < 4 := by omega
  have h8 : t.val / 8 < 4 := by omega
  have hb : (⟨(t.val * 512 + r.val) / 4096, h4⟩ : Fin 4) = ⟨t.val / 8, h8⟩ := Fin.ext (show (t.val * 512 + r.val) / 4096 = t.val / 8 by omega)
  rw [MixRefIdeal.Mem.refT_at _ _ _ _ _ _ _ _ _ ⟨t.val * 512 + r.val, h⟩ e ⟨(t.val * 512 + r.val) / 4096, h4⟩ ⟨(t.val * 512 + r.val) % 4096, Nat.mod_lt _ (by omega)⟩ rfl rfl
    (hs _ _)]
  have e0 : (fun k => k0_pay5 (F := Ideal) (iblk m c 0 t) (iblk m c 1 t) (iblk m c 3 t) (iblk m c 2 t) (iblk m c 4 t) (ix2 r k))
      = MixRefIdeal.Mem.mixRow (m ((c : Thread nD τ).loc main_arg0)) (m ((c : Thread nD τ).loc main_arg1)) (m ((c : Thread nD τ).loc main_arg2)) (m ((c : Thread nD τ).loc main_arg3)) ⟨(t.val * 512 + r.val) / 4096, h4⟩ ⟨(t.val * 512 + r.val) % 4096, Nat.mod_lt _ (by omega)⟩ := by
    funext k
    rw [pay5_at]
    have f0 := funext fun k => bx_at m c t r k h4
    have f1 := funext fun k => ba_at m c t r k h4
    have f2 := funext fun k => bb_at m c t r k h4
    have f3 := funext fun k => funext fun e => bwa_at m c t k e
    have f4 := funext fun k => funext fun e => bwb_at m c t k e
    exact congrFun (congr (congr (congr (congr (congrArg mixed f0) f1) f2) f3) f4) k
  have e5 := funext fun k => bg_at m c t k
  have e6 := funext fun k => funext fun j => bwq_at m c t k j
  have e7 := funext fun j => funext fun e => bwo_at m c t j e
  have e8 := funext fun x => funext fun j => bk_at m c t x j h8
  have e9 := funext fun x => funext fun j => bv_at m c t x j h8
  rw [← hb] at e8 e9
  exact congrFun (congr (congr (congr (congr (congr (congrArg attended e0) e5) e6) e8) e9) e7) e

end Cert.MixIdeal.Mem

end
-- ==== Proof.MixFinal.lean ====
/-
  The output projection of the mixer and the attention to the memory: the arrays after the run.
-/
module

public import proofs.«01_k».proof.Proof.MixValue

@[expose] public section

set_option maxRecDepth 16384

noncomputable section

open Idealize.ShloMosaic Idealize.ShloMosaic.TcCoe Idealize.SL.Sem
open Idealize.ShloMosaic.Pipeline (Dat)

namespace Cert.MixIdeal.Mem

open Cert.MixIdeal Cert.MixIdeal.Gen Cert.Softmax

variable (m : (ℓ : Loc nD τ sig) → Buf (Elt Ideal) ℓ)

/-- The rows after the run. -/
theorem final (c : Dev nD) (hs : RealScores m c) : (dats m 0 c).arrAt 13 (cfgs 0).N
    = MixRefIdeal.Mem.refT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  blk_simp
  idx_vars y
  have ht : t.val < 32 := t.isLt
  rw [emb_o t _ _ (by omega), ← point m c hs t y0 y1 (by omega)]
  rw [after0_13]
  unfold out0_13 k0_pay17 k0_pay18 k0_pay19
  frame_out
  have h7 : k0_pay7 (F := Ideal) (iblk m c 0 t) (iblk m c 1 t) (iblk m c 3 t) (iblk m c 2 t) (iblk m c 4 t)
      = mulf (k0_pay5 (F := Ideal) (iblk m c 0 t) (iblk m c 1 t) (iblk m c 3 t) (iblk m c 2 t) (iblk m c 4 t))
          (k0_pay5 (F := Ideal) (iblk m c 0 t) (iblk m c 1 t) (iblk m c 3 t) (iblk m c 2 t) (iblk m c 4 t)) := rfl
  rw [h7]
  exact store_at _ (iblk m c 5 t) (iblk m c 6 t) (iblk m c 7 t) y0 (iblk m c 8 t) (iblk m c 9 t) y1

end Cert.MixIdeal.Mem

end
-- ==== Proof.MixCast.lean ====
/-
  The output projection of the mixer and the attention to the memory: the weights cast along the way.
-/
module

public import proofs.«01_k».proof.Proof.MixValue

@[expose] public section

set_option maxRecDepth 16384

noncomputable section

open Idealize.ShloMosaic Idealize.ShloMosaic.TcCoe Idealize.SL.Sem
open Idealize.ShloMosaic.Pipeline (Dat)

namespace Cert.MixIdeal.Mem

open Cert.MixIdeal Cert.MixIdeal.Gen Cert.Softmax

variable (m : (ℓ : Loc nD τ sig) → Buf (Elt Ideal) ℓ)

/-- Weights in the narrow format, as the reference writes them. -/
def cast2048x5632 (W : FVec Ideal MixRefIdeal.S1x2048x5632 .f32) : FVec Ideal MixRefIdeal.S2048x5632 .bf16 :=
  truncf .bf16 (shapeCast _ W MixRefIdeal.Gen.shapeCasts_S1x2048x5632_S2048x5632) MixRefIdeal.Gen.bitsLt_bf16_f32

/-- The same at an index. -/
theorem cast2048x5632_at (W : FVec Ideal MixRefIdeal.S1x2048x5632 .f32) (i : Fin 2048) (j : Fin 5632) :
    cast2048x5632 W (ix2 i j) = W (ix3 0 i j) := by
  pointwise [cast2048x5632]

/-- Weights in the narrow format, as the reference writes them. -/
def cast5632x2048 (W : FVec Ideal MixRefIdeal.S1x5632x2048 .f32) : FVec Ideal MixRefIdeal.S5632x2048 .bf16 :=
  truncf .bf16 (shapeCast _ W MixRefIdeal.Gen.shapeCasts_S1x5632x2048_S5632x2048) MixRefIdeal.Gen.bitsLt_bf16_f32

/-- The same at an index. -/
theorem cast5632x2048_at (W : FVec Ideal MixRefIdeal.S1x5632x2048 .f32) (i : Fin 5632) (j : Fin 2048) :
    cast5632x2048 W (ix2 i j) = W (ix3 0 i j) := by
  pointwise [cast5632x2048]

/-- A stored slab is the staged one. -/
theorem pay2_at (x : FVec Ideal S64x5632 .f32) (r : Fin 64) (e : Fin 5632) :
    k0_pay2 (F := Ideal) x (ix2 r e) = x (ix2 r e) := by
  pointwise [k0_pay2]

/-- The weights of argument 9 in the narrow format, after the run. -/
theorem final_g (c : Dev nD) : (dats m 0 c).arrAt 14 (cfgs 0).N = cast2048x5632 (m ((c : Thread nD τ).loc main_arg9)) := by
  refine (dats m 0 c).arrAt_eq_of_covers 14 _ (by decide +kernel) fun t hf y => ?_
  blk_simp
  idx_vars y
  have ht : t.val < 32 := t.isLt
  rw [emb_g t _ _ (by omega), cast2048x5632_at]
  rw [after0_14]
  frame_out
  exact (pay2_at _ y0 y1).trans (bsg_at m c t y0 y1 (by omega))

/-- A stored slab is the staged one. -/
theorem pay3_at (x : FVec Ideal S64x5632 .f32) (r : Fin 64) (e : Fin 5632) :
    k0_pay3 (F := Ideal) x (ix2 r e) = x (ix2 r e) := by
  pointwise [k0_pay3]

/-- The weights of argument 10 in the narrow format, after the run. -/
theorem final_u (c : Dev nD) : (dats m 0 c).arrAt 15 (cfgs 0).N = cast2048x5632 (m ((c : Thread nD τ).loc main_arg10)) := by
  refine (dats m 0 c).arrAt_eq_of_covers 15 _ (by decide +kernel) fun t hf y => ?_
  blk_simp
  idx_vars y
  have ht : t.val < 32 := t.isLt
  rw [emb_u t _ _ (by omega), cast2048x5632_at]
  rw [after0_15]
  frame_out
  exact (pay3_at _ y0 y1).trans (bsu_at m c t y0 y1 (by omega))

/-- A stored slab is the staged one. -/
theorem pay4_at (x : FVec Ideal S176x2048 .f32) (r : Fin 176) (e : Fin 2048) :
    k0_pay4 (F := Ideal) x (ix2 r e) = x (ix2 r e) := by
  pointwise [k0_pay4]

/-- The weights of argument 11 in the narrow format, after the run. -/
theorem final_d (c : Dev nD) : (dats m 0 c).arrAt 16 (cfgs 0).N = cast5632x2048 (m ((c : Thread nD τ).loc main_arg11)) := by
  refine (dats m 0 c).arrAt_eq_of_covers 16 _ (by decide +kernel) fun t hf y => ?_
  blk_simp
  idx_vars y
  have ht : t.val < 32 := t.isLt
  rw [emb_d t _ _ (by omega), cast5632x2048_at]
  rw [after0_16]
  frame_out
  exact (pay4_at _ y0 y1).trans (bsd_at m c t y0 y1 (by omega))

end Cert.MixIdeal.Mem

end
-- ==== Proof.MixClaims.lean ====
/-
  The claims about the mixer's output projection with the attention to the memory: frames, that idealizing rewrites
  nothing, and that from finite scores the kernel's results are the reference's.
-/
module

public import proofs.«01_k».proof.Defs
public import proofs.«01_k».proof.Proof.Gen.Mix.Frame
public import proofs.«01_k».proof.Proof.MixFinal
public import proofs.«01_k».proof.Proof.MixCast
public import Idealize.ShloMosaic.Lib.Claim

@[expose] public section

set_option maxRecDepth 16384

noncomputable section

open Idealize.ShloMosaic Idealize.ShloMosaic.TcCoe Idealize.SL.Sem

namespace Cert.MixProof

/-- The kernel over bits finishes, and leaves its arguments as they were. -/
theorem frame : Cert.quiescent_Mix := fun m ρ _ => Cert.Mix.Gen.frame m ρ

/-- The kernel over exact values finishes, and leaves its arguments as they were. -/
theorem frameIdeal : Cert.quiescent_MixIdeal := fun m ρ _ => Cert.MixIdeal.Gen.frame m ρ

/-- The reference finishes, and leaves its arguments as they were. -/
theorem frameRef : Cert.quiescent_MixRefIdeal := by
  intro m ρ _
  exact (θ_run Cert.MixRefIdeal.defs _ _).mono
    (fun r h => ⟨fun c => (h c).2.2.2.2, sem_eq_zero_of_no_sems (by decide) r.2⟩) (Cert.MixRefIdeal.Value.run m ρ)

/-- Idealizing rewrites nothing in this program. -/
theorem preserves : Cert.preserves_Mix_MixIdeal := trivial

/-- The reference finishes from finite arguments. -/
theorem frameRefPre [Cert.Pre_finite_mix.Facts] : Cert.quiescent_MixRefIdeal_pre_finite_mix := by
  intro m ρ _
  exact frameRef m ρ trivial

/-- The kernel over exact values finishes from finite arguments. -/
theorem frameIdealPre [Cert.Pre_finite_mix.Facts] : Cert.quiescent_MixIdeal_pre_finite_mix :=
  fun m ρ _ => Cert.MixIdeal.Gen.frame m ρ

/-- From finite arguments the scores are real. -/
theorem real_scores [Cert.Pre_finite_mix.Facts] (m : (ℓ : Loc Cert.MixIdeal.nD Cert.MixIdeal.τ Cert.MixIdeal.sig) → Buf (Elt Ideal) ℓ)
    (hp : Cert.Pre_MixIdeal_finite_mix m) (c : Dev Cert.MixIdeal.nD) : Cert.MixIdeal.Mem.RealScores m c := by
  obtain ⟨h0, h1, h2, h3, h4, h5, h7⟩ := hp c
  intro b l q x
  exact Cert.MixRefIdeal.Mem.scores_real _ _ _ _ _ _ _ b l
    (fun b l k => Cert.Softmax.real_of_finite _ _ h0 (ix3 b l k)) (fun b l k => Cert.Softmax.real_of_finite _ _ h1 (ix3 b l k))
    (fun b l k => Cert.Softmax.real_of_finite _ _ h2 (ix3 b l k)) (fun k e => Cert.Softmax.real_of_finite _ _ h3 (ix3 0 k e))
    (fun k => Cert.Softmax.real_of_finite _ _ h4 (ix2 0 k)) (fun k j => Cert.Softmax.real_of_finite _ _ h5 (ix3 0 k j))
    (fun b m h d => Cert.Softmax.real_of_finite _ _ h7 (ix4 b m h d)) q x

set_option maxHeartbeats 4000000 in
/-- From the same finite arguments the kernel's results are the reference's. -/
theorem algebraic [Cert.Pre_finite_mix.Facts] : Cert.algebraic_MixIdeal_MixRefIdeal_pre_finite_mix := by
  intro m g m' g' hpre hagree
  refine ⟨fun c => (Cert.MixIdeal.Gen.dats m 0 c).arrAt 13 (Cert.MixIdeal.cfgs 0).N, fun c => (Cert.MixIdeal.Gen.dats m 0 c).arrAt 14 (Cert.MixIdeal.cfgs 0).N,
    fun c => (Cert.MixIdeal.Gen.dats m 0 c).arrAt 15 (Cert.MixIdeal.cfgs 0).N, fun c => (Cert.MixIdeal.Gen.dats m 0 c).arrAt 16 (Cert.MixIdeal.cfgs 0).N, ?_, ?_⟩
  · run_from Cert.MixIdeal.Gen.run_main m g
    exact hc.1 16
  · run_from Cert.MixRefIdeal.Value.run m' g'
    · obtain ⟨h0, h1, h2, h3, h4, h5, h6, h7, h8, h9, h10, h11⟩ := hagree c
      rw [Cert.MixRefIdeal.Mem.res_eq m' c, h0, h1, h2, h3, h4, h5, h6, h7, h8]
      exact (Cert.MixIdeal.Mem.final m c (real_scores m hpre c)).symm
    · exact (Cert.MixIdeal.Mem.final_g m c).symm
    · exact (Cert.MixIdeal.Mem.final_u m c).symm
    · exact (Cert.MixIdeal.Mem.final_d m c).symm

end Cert.MixProof

end
-- ==== Proof.FfsCases.lean ====
/-
  The feed-forward call of the sample rows, one grid point at a time: what the body leaves in the output block and in the kept block of
  normalised rows, at the first point of a block of rows, at a middle point and at the last one.
-/
module

public import proofs.«01_k».proof.Proof.Gen.FfsIdeal.Value
public import proofs.«01_k».proof.Proof.FfnCases
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfsIdeal.Mem

open Cert.FfsIdeal Cert.FfsIdeal.Gen

open Cert.FfnIdeal.Mem (nrm gated part)

section payloads

variable (wg wu : FVec Ideal S2048x512 .bf16) (wd : FVec Ideal S512x2048 .bf16)
  (x : FVec Ideal S256x2048 .f32) (h : FVec Ideal S256x2048 .bf16) (g : FVec Ideal S1x2048 .f32) (r : Fin 256) (e : Fin 2048)

/-- A first point's normalised rows, first half. -/
theorem pay12_at : k0_pay12 (F := Ideal) x g (ix2 r e) = nrm (fun k => x (ix2 r k)) (fun k => g (ix2 0 k)) e := by
  pointwise [k0_pay12, k0_pay11, k0_pay10, nrm]

/-- The same, second half. -/
theorem pay3_at : k0_pay3 (F := Ideal) x g (ix2 r e) = nrm (fun k => x (ix2 r k)) (fun k => g (ix2 0 k)) e := by
  pointwise [k0_pay3, k0_pay2, k0_pay1, nrm]

/-- A first point's output rows, first half. -/
theorem pay13_at : k0_pay13 (F := Ideal) wg wu wd x g (ix2 r e)
    = x (ix2 r e) + part (nrm (fun k => x (ix2 r k)) (fun k => g (ix2 0 k))) (fun k s => wg (ix2 k s)) (fun k s => wu (ix2 k s)) (fun s => wd (ix2 s e)) := by
  pointwise [k0_pay13, k0_pay11, k0_pay10, k0_pay9, k0_pay8, k0_pay7, part, gated, nrm]

/-- The same, second half. -/
theorem pay4_at : k0_pay4 (F := Ideal) (k0_pay7 wg) (k0_pay8 wu) (k0_pay9 wd) x g (ix2 r e)
    = x (ix2 r e) + part (nrm (fun k => x (ix2 r k)) (fun k => g (ix2 0 k))) (fun k s => wg (ix2 k s)) (fun k s => wu (ix2 k s)) (fun s => wd (ix2 s e)) := by
  pointwise [k0_pay4, k0_pay2, k0_pay1, k0_pay9, k0_pay8, k0_pay7, part, gated, nrm]

/-- A middle point's output rows. -/
theorem pay5_at (x : FVec Ideal S512x2048 .f32) (h : FVec Ideal S512x2048 .bf16) (r : Fin 512) : k0_pay5 (F := Ideal) wg wu wd x h (ix2 r e)
    = x (ix2 r e) + part (fun k => h (ix2 r k)) (fun k s => wg (ix2 k s)) (fun k s => wu (ix2 k s)) (fun s => wd (ix2 s e)) := by
  pointwise [k0_pay5, part, gated]

/-- A last point's output rows, first half. -/
theorem pay17_at : k0_pay17 (F := Ideal) wg wu wd x h g (ix2 r e)
    = nrm (fun e => x (ix2 r e) + part (fun k => h (ix2 r k)) (fun k s => wg (ix2 k s)) (fun k s => wu (ix2 k s)) (fun s => wd (ix2 s e)))
        (fun k => g (ix2 0 k)) e := by
  pointwise [k0_pay17, k0_pay16, k0_pay15, k0_pay14, part, gated, nrm]

/-- The same, second half. -/
theorem pay6_at : k0_pay6 (F := Ideal) (k0_pay14 wg) (k0_pay15 wu) (k0_pay16 wd) (k0_pay18 x) h g (ix2 r e)
    = nrm (fun e => x (ix2 r e) + part (fun k => h (ix2 r k)) (fun k s => wg (ix2 k s)) (fun k s => wu (ix2 k s)) (fun s => wd (ix2 s e)))
        (fun k => g (ix2 0 k)) e := by
  pointwise [k0_pay6, k0_pay18, k0_pay16, k0_pay15, k0_pay14, part, gated, nrm]

end payloads

variable (m : (ℓ : Loc nD τ sig) → Buf (Elt Ideal) ℓ)

/-- The rows staged at a grid point. -/
abbrev bx (c : Dev nD) (t : Fin cfg0.N) : FVec Ideal S512x2048 .f32 := iblk m c 0 t
/-- The first gain staged at a grid point. -/
abbrev bg (c : Dev nD) (t : Fin cfg0.N) : FVec Ideal S1x2048 .f32 := iblk m c 1 t
/-- The gate's columns staged at a grid point. -/
abbrev bwg (c : Dev nD) (t : Fin cfg0.N) : FVec Ideal S2048x512 .bf16 := iblk m c 2 t
/-- The columns of the other factor staged at a grid point. -/
abbrev bwu (c : Dev nD) (t : Fin cfg0.N) : FVec Ideal S2048x512 .bf16 := iblk m c 3 t
/-- The rows of the last matrix staged at a grid point. -/
abbrev bwd (c : Dev nD) (t : Fin cfg0.N) : FVec Ideal S512x2048 .bf16 := iblk m c 4 t
/-- The last gain staged at a grid point. -/
abbrev bf (c : Dev nD) (t : Fin cfg0.N) : FVec Ideal S1x2048 .f32 := iblk m c 5 t
/-- The output block after grid point `n`. -/
abbrev ob (c : Dev nD) (n : ℕ) (h : n < cfg0.N) : FVec Ideal S512x2048 .f32 := (outsAt0 m c n h).1
/-- The kept normalised rows after grid point `n`. -/
abbrev hb (c : Dev nD) (n : ℕ) (h : n < cfg0.N) : FVec Ideal S512x2048 .bf16 := (outsAt0 m c n h).2

/-- The normalised rows after a first point. -/
theorem hb_first (c : Dev nD) (t : Fin cfg0.N) (c0 : t.val % 11 = 0) (c1 : ¬(1 ≤ t.val % 11 ∧ t.val % 11 ≤ 9)) (c2 : ¬t.val % 11 = 10)
    (r : Fin 512) (e : Fin 2048) :
    hb m c t.val t.isLt (ix2 r e) = nrm (fun k => bx m c t (ix2 r k)) (fun k => bg m c t (ix2 0 k)) e := by
  unfold hb
  rw [outsAt0_A m c t c0 c1 c2]; frame_out
  canon_tiles x h
  all_goals
    idx_vars x
    obtain rfl : e = _ := Fin.ext h1
  · obtain rfl : r = ⟨256 + x0.val, Nat.lt_of_lt_of_le (Nat.add_lt_add_left x0.isLt 256) (by decide)⟩ := Fin.ext h0
    exact (pay3_at _ _ _ _).trans (by pointwise)
  · obtain rfl : r = ⟨x0.val, Nat.lt_of_lt_of_le x0.isLt (by decide)⟩ := Fin.ext h0
    exact (pay12_at _ _ _ _).trans (by pointwise)

/-- The output rows after a first point. -/
theorem ob_first (c : Dev nD) (t : Fin cfg0.N) (c0 : t.val % 11 = 0) (c1 : ¬(1 ≤ t.val % 11 ∧ t.val % 11 ≤ 9)) (c2 : ¬t.val % 11 = 10)
    (r : Fin 512) (e : Fin 2048) :
    ob m c t.val t.isLt (ix2 r e) = bx m c t (ix2 r e) + part (nrm (fun k => bx m c t (ix2 r k)) (fun k => bg m c t (ix2 0 k)))
      (fun k s => bwg m c t (ix2 k s)) (fun k s => bwu m c t (ix2 k s)) (fun s => bwd m c t (ix2 s e)) := by
  unfold ob
  rw [outsAt0_A m c t c0 c1 c2]; frame_out
  canon_tiles x h
  all_goals
    idx_vars x
    obtain rfl : e = _ := Fin.ext h1
  · obtain rfl : r = ⟨256 + x0.val, Nat.lt_of_lt_of_le (Nat.add_lt_add_left x0.isLt 256) (by decide)⟩ := Fin.ext h0
    exact (pay4_at _ _ _ _ _ _ _).trans (by pointwise)
  · obtain rfl : r = ⟨x0.val, Nat.lt_of_lt_of_le x0.isLt (by decide)⟩ := Fin.ext h0
    exact (pay13_at _ _ _ _ _ _ _).trans (by pointwise)

/-- A middle point keeps the normalised rows. -/
theorem hb_middle (c : Dev nD) (t : Fin cfg0.N) (c0 : ¬t.val % 11 = 0) (c1 : 1 ≤ t.val % 11 ∧ t.val % 11 ≤ 9) (c2 : ¬t.val % 11 = 10) :
    hb m c t.val t.isLt = hb m c (t.val - 1) (Nat.lt_of_le_of_lt (Nat.sub_le _ _) t.isLt) := by
  unfold hb
  rw [outsAt0_B m c t c0 c1 c2]; rfl

/-- The output rows after a middle point. -/
theorem ob_middle (c : Dev nD) (t : Fin cfg0.N) (c0 : ¬t.val % 11 = 0) (c1 : 1 ≤ t.val % 11 ∧ t.val % 11 ≤ 9) (c2 : ¬t.val % 11 = 10)
    (r : Fin 512) (e : Fin 2048) :
    ob m c t.val t.isLt (ix2 r e) = ob m c (t.val - 1) (Nat.lt_of_le_of_lt (Nat.sub_le _ _) t.isLt) (ix2 r e)
      + part (fun k => hb m c (t.val - 1) (Nat.lt_of_le_of_lt (Nat.sub_le _ _) t.isLt) (ix2 r k))
      (fun k s => bwg m c t (ix2 k s)) (fun k s => bwu m c t (ix2 k s)) (fun s => bwd m c t (ix2 s e)) := by
  unfold ob
  rw [outsAt0_B m c t c0 c1 c2]; frame_out
  rw [read_unread_whole]
  exact pay5_at _ _ _ _ _ _ _

/-- The output rows after a last point. -/
theorem ob_last (c : Dev nD) (t : Fin cfg0.N) (c0 : ¬t.val % 11 = 0) (c1 : ¬(1 ≤ t.val % 11 ∧ t.val % 11 ≤ 9)) (c2 : t.val % 11 = 10)
    (r : Fin 512) (e : Fin 2048) :
    ob m c t.val t.isLt (ix2 r e) = nrm (fun e => ob m c (t.val - 1) (Nat.lt_of_le_of_lt (Nat.sub_le _ _) t.isLt) (ix2 r e)
      + part (fun k => hb m c (t.val - 1) (Nat.lt_of_le_of_lt (Nat.sub_le _ _) t.isLt) (ix2 r k))
      (fun k s => bwg m c t (ix2 k s)) (fun k s => bwu m c t (ix2 k s)) (fun s => bwd m c t (ix2 s e))) (fun k => bf m c t (ix2 0 k)) e := by
  unfold ob
  rw [outsAt0_C m c t c0 c1 c2]; frame_out
  rw [read_unread_whole]
  canon_tiles x h
  all_goals
    idx_vars x
    obtain rfl : e = _ := Fin.ext h1
  · obtain rfl : r = ⟨256 + x0.val, Nat.lt_of_lt_of_le (Nat.add_lt_add_left x0.isLt 256) (by decide)⟩ := Fin.ext h0
    exact (pay6_at _ _ _ _ _ _ _ _).trans (by pointwise)
  · obtain rfl : r = ⟨x0.val, Nat.lt_of_lt_of_le x0.isLt (by decide)⟩ := Fin.ext h0
    exact (pay17_at _ _ _ _ _ _ _ _).trans (by pointwise)

end Cert.FfsIdeal.Mem

end
-- ==== Proof.FfsValue.lean ====
/-
  The feed-forward call of the sample rows: after the run the result array is the reference's, entry by entry.
-/
module

public import proofs.«01_k».proof.Proof.FfsCases
public import proofs.«01_k».proof.Proof.Gen.FfsRefIdeal.Run

@[expose] public section

set_option maxRecDepth 512

noncomputable section

open Idealize.ShloMosaic Idealize.ShloMosaic.TcCoe Idealize.SL.Sem
open Idealize.ShloMosaic.Pipeline (Dat)

namespace Cert.FfsIdeal.Mem

open Cert.FfnIdeal.Mem (nrm gated part)

section arrays

variable (X : FVec Ideal FfsRefIdeal.S128x4x2048 .f32) (G : FVec Ideal FfsRefIdeal.S1x2048 .f32)
  (Wg Wu : FVec Ideal FfsRefIdeal.S1x2048x5632 .f32) (Wd : FVec Ideal FfsRefIdeal.S1x5632x2048 .f32)
  (Gf : FVec Ideal FfsRefIdeal.S2048 .f32) (R : Fin 512) (e : Fin 2048)

/-- Row `R` of the two leading axes taken together. -/
def rowOf (k : Fin 2048) : EReal := X (ix3 ⟨R.val / 4, by omega⟩ ⟨R.val % 4, Nat.mod_lt _ (by omega)⟩ k)

/-- Row `R` normalised. -/
def hRow : Fin 2048 → EReal := nrm (rowOf X R) (fun k => G (ix2 0 k))

/-- What block `j` of the hidden columns adds to entry `e`. -/
def partOf (j : ℕ) : EReal := if hj : j < 11 then
    part (hRow X G R) (fun k s => Wg (ix3 0 k ⟨j * 512 + s.val, by omega⟩)) (fun k s => Wu (ix3 0 k ⟨j * 512 + s.val, by omega⟩))
      (fun s => Wd (ix3 0 ⟨j * 512 + s.val, by omega⟩ e))
  else 0

/-- Row `R` and what the first `n` blocks of hidden columns add to it, at entry `e`. -/
def sumTo (n : ℕ) : EReal := rowOf X R e + ∑ j ∈ Finset.range n, partOf X G Wg Wu Wd R e j

/-- The result at row `R`, entry `e`. -/
def outOf : EReal := nrm (fun e => sumTo X G Wg Wu Wd R e 11) (fun k => Gf (ix1 k)) e

/-- All the hidden columns at once. -/
theorem sumTo_all : sumTo X G Wg Wu Wd R e 11
    = rowOf X R e + ∑ l : Fin 5632, gated (hRow X G R) (fun k => Wg (ix3 0 k l)) (fun k => Wu (ix3 0 k l)) * Wd (ix3 0 l e) := by
  unfold sumTo
  rw [Fin.sum_univ_tiles 11 512 rfl, Finset.sum_range]
  refine congrArg (rowOf X R e + ·) (Finset.sum_congr rfl fun j _ => ?_)
  unfold partOf
  rw [dif_pos j.isLt]
  rfl

end arrays

end Cert.FfsIdeal.Mem

namespace Cert.FfsRefIdeal.Mem

open Cert.FfsRefIdeal Cert.FfsIdeal.Mem
open Cert.FfnIdeal.Mem (nrm gated part)

section terms

variable (X : FVec Ideal S128x4x2048 .f32) (G : FVec Ideal S1x2048 .f32) (g : FVec Ideal S2048 .f32)
  (Wg Wu : FVec Ideal S1x2048x5632 .f32) (Wd : FVec Ideal S1x5632x2048 .f32)
  (Gf : FVec Ideal S2048 .f32) (b : Fin 128) (l : Fin 4)

/-- The reference's norm of every row. -/
def normT : FVec Ideal S128x4x2048 .f32 :=
  mulf (mulf X (broadcastInDim S128x4x2048 ![0, 1, 2] Gen.bcast_S128x4x1_S128x4x2048_0_1_2
      (Host.rsqrt (addf (Host.divf (broadcastInDim S128x4x1 ![0, 1] Gen.bcast_S128x4_S128x4x1_0_1
        (Host.reduceAdd (mulf X X) (constant S_ .f32 0x00000000#32) Gen.reducesTo_S128x4x2048_S128x4_d2 Gen.h_S_))
        (broadcastInDim S128x4x1 ![] Gen.bcast_S_S128x4x1 (constant S_ .f32 0x45000000#32)))
        (broadcastInDim S128x4x1 ![] Gen.bcast_S_S128x4x1 (constant S_ .f32 0x358637BD#32))))))
    (broadcastInDim S128x4x2048 ![0, 1, 2] Gen.bcast_S1x1x2048_S128x4x2048_0_1_2
      (broadcastInDim S1x1x2048 ![2] Gen.bcast_S2048_S1x1x2048_2 g))

/-- The norm at an index. -/
theorem normT_at (k : Fin 2048) : normT X g (ix3 b l k) = nrm (fun k => X (ix3 b l k)) (fun k => g (ix1 k)) k := by
  pointwise [normT, nrm]

/-- The reference's product with one of the two wide matrices. -/
def wideT (H : FVec Ideal S128x4x2048 .f32) (W : FVec Ideal S1x2048x5632 .f32) : FVec Ideal S128x4x5632 .f32 :=
  Host.dotGeneral (F := Ideal) dot_S128x4x2048_S2048x5632_S128x4x5632_2_0_01_1_n_n none H
    (shapeCast _ W Gen.shapeCasts_S1x2048x5632_S2048x5632)

/-- The product at an index. -/
theorem wideT_at (H : FVec Ideal S128x4x2048 .f32) (W : FVec Ideal S1x2048x5632 .f32) (s : Fin 5632) :
    wideT H W (ix3 b l s) = ∑ k, H (ix3 b l k) * W (ix3 0 k s) := by
  pointwise [wideT]

/-- The reference's gated unit. -/
def gateT (U V : FVec Ideal S128x4x5632 .f32) : FVec Ideal S128x4x5632 .f32 :=
  mulf (mulf U (Host.divf (broadcastInDim S128x4x5632 ![] Gen.bcast_S_S128x4x5632 (constant S_ .f32 0x3F800000#32))
    (addf (broadcastInDim S128x4x5632 ![] Gen.bcast_S_S128x4x5632 (constant S_ .f32 0x3F800000#32)) (Host.exp (Host.negf U))))) V

/-- The gated unit at an index. -/
theorem gateT_at (U V : FVec Ideal S128x4x5632 .f32) (s : Fin 5632) :
    gateT U V (ix3 b l s) = U (ix3 b l s) * Ideal.logistic (U (ix3 b l s)) * V (ix3 b l s) := by
  pointwise [gateT]
  rfl

/-- The rows and what the hidden columns add to them. -/
def sumT (A : FVec Ideal S128x4x5632 .f32) (W : FVec Ideal S1x5632x2048 .f32) : FVec Ideal S128x4x2048 .f32 :=
  addf X (Host.dotGeneral (F := Ideal) dot_S128x4x5632_S5632x2048_S128x4x2048_2_0_01_1_n_n none A
    (shapeCast _ W Gen.shapeCasts_S1x5632x2048_S5632x2048))

/-- The same at an index. -/
theorem sumT_at (A : FVec Ideal S128x4x5632 .f32) (W : FVec Ideal S1x5632x2048 .f32) (e : Fin 2048) :
    sumT X A W (ix3 b l e) = X (ix3 b l e) + ∑ s, A (ix3 b l s) * W (ix3 0 s e) := by
  pointwise [sumT]

/-- The reference's result, its parts named. -/
def refT : FVec Ideal S512x2048 .f32 :=
  shapeCast _ (normT (sumT X (gateT (wideT (normT X (shapeCast _ G Gen.shapeCasts_S1x2048_S2048)) Wg)
    (wideT (normT X (shapeCast _ G Gen.shapeCasts_S1x2048_S2048)) Wu)) Wd) Gf) Gen.shapeCasts_S128x4x2048_S512x2048

/-- The reference's result at row `R`, entry `e`. -/
theorem refT_at (R : Fin 512) (e : Fin 2048) : refT X G Wg Wu Wd Gf (ix2 R e) = outOf X G Wg Wu Wd Gf R e := by
  unfold outOf
  simp only [sumTo_all]
  pointwise [refT]
  simp only [normT_at, sumT_at, gateT_at, wideT_at]
  have hG : (fun k : Fin 2048 => shapeCast S2048 G Gen.shapeCasts_S1x2048_S2048 (ix1 k)) = fun k => G (ix2 0 k) := by
    funext k; pointwise
  rw [hG]
  rfl

end terms

/-- The run's result is that term of the arguments. -/
theorem res_eq (m' : (ℓ : Loc nD τ sig) → Buf (Elt Ideal) ℓ) (c : Dev nD) :
    Value.res_main_v36 m' c = refT (m' ((c : Thread nD τ).loc main_arg0)) (m' ((c : Thread nD τ).loc main_arg1))
      (m' ((c : Thread nD τ).loc main_arg2)) (m' ((c : Thread nD τ).loc main_arg3)) (m' ((c : Thread nD τ).loc main_arg4))
      (m' ((c : Thread nD τ).loc main_arg5)) := rfl

end Cert.FfsRefIdeal.Mem

namespace Cert.FfsIdeal.Mem

open Cert.FfnIdeal.Mem (nrm gated part)

open Cert.FfsIdeal Cert.FfsIdeal.Gen

variable (m : (ℓ : Loc nD τ sig) → Buf (Elt Ideal) ℓ)

/-- The block indices of the windows: one block of rows, eleven blocks of hidden columns. -/
theorem idx : ∀ t : Fin cfg0.N, win0_0.index t = ![t.val / 11, 0] ∧ win0_1.index t = ![0, 0] ∧ win0_2.index t = ![0, t.val % 11]
    ∧ win0_3.index t = ![0, t.val % 11] ∧ win0_4.index t = ![t.val % 11, 0] ∧ win0_5.index t = ![0, 0]
    ∧ win0_6.index t = ![t.val / 11, 0] :=
  (by decide +kernel : ∀ t : Fin grid0.N, _)

/-- Where row `r`, entry `e` of the output block of grid point `t` lies in the array. -/
theorem emb_o (t : Fin cfg0.N) (r : Fin 512) (e : Fin 2048) (h : t.val / 11 * 512 + r.val < 512) :
    ((cfg0.win 6).blk t).view.emb (ix2 r e : S512x2048.Idx) = (ix2 ⟨t.val / 11 * 512 + r.val, h⟩ e : S512x2048.Idx) := by
  blk_ext [idx t]

/-- A staged row, in the argument array. -/
theorem bx_at (c : Dev nD) (t : Fin cfg0.N) (r : Fin 512) (k : Fin 2048) (h : t.val / 11 * 512 + r.val < 512) :
    bx m c t (ix2 r k) = rowOf (m ((c : Thread nD τ).loc main_arg0)) ⟨t.val / 11 * 512 + r.val, h⟩ k := by
  unfold rowOf
  blk_simp [iblk]; entry_read; pointwise; blk_ext [iblk, V, idx t]

/-- The staged gain of the first norm. -/
theorem bg_at (c : Dev nD) (t : Fin cfg0.N) (k : Fin 2048) :
    bg m c t (ix2 0 k) = m ((c : Thread nD τ).loc main_arg1) (ix2 0 k : S1x2048.Idx) := by
  blk_simp [iblk]; entry_read; pointwise; blk_ext [iblk, V, idx t]

/-- The staged columns of the gate. -/
theorem bwg_at (c : Dev nD) (t : Fin cfg0.N) (k : Fin 2048) (s : Fin 512) (h : t.val % 11 * 512 + s.val < 5632) :
    bwg m c t (ix2 k s) = m ((c : Thread nD τ).loc main_arg2) (ix3 0 k ⟨t.val % 11 * 512 + s.val, h⟩ : S1x2048x5632.Idx) := by
  blk_simp [iblk]; entry_read; pointwise; blk_ext [iblk, V, idx t]

/-- The staged columns of the other factor. -/
theorem bwu_at (c : Dev nD) (t : Fin cfg0.N) (k : Fin 2048) (s : Fin 512) (h : t.val % 11 * 512 + s.val < 5632) :
    bwu m c t (ix2 k s) = m ((c : Thread nD τ).loc main_arg3) (ix3 0 k ⟨t.val % 11 * 512 + s.val, h⟩ : S1x2048x5632.Idx) := by
  blk_simp [iblk]; entry_read; pointwise; blk_ext [iblk, V, idx t]

/-- The staged rows of the last matrix. -/
theorem bwd_at (c : Dev nD) (t : Fin cfg0.N) (s : Fin 512) (e : Fin 2048) (h : t.val % 11 * 512 + s.val < 5632) :
    bwd m c t (ix2 s e) = m ((c : Thread nD τ).loc main_arg4) (ix3 0 ⟨t.val % 11 * 512 + s.val, h⟩ e : S1x5632x2048.Idx) := by
  blk_simp [iblk]; entry_read; pointwise; blk_ext [iblk, V, idx t]

/-- The staged gain of the last norm. -/
theorem bf_at (c : Dev nD) (t : Fin cfg0.N) (k : Fin 2048) :
    bf m c t (ix2 0 k) = m ((c : Thread nD τ).loc main_arg5) (ix1 k : S2048.Idx) := by
  blk_simp [iblk]; entry_read; pointwise; blk_ext [iblk, V, idx t]

/-- The entry of the result at a row, of the arguments. -/
abbrev resAt (c : Dev nD) (R : Fin 512) (e : Fin 2048) : EReal :=
  outOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) R e

/-- The partial sums of a row, of the arguments. -/
abbrev sumAt (c : Dev nD) (R : Fin 512) (e : Fin 2048) (n : ℕ) : EReal :=
  sumTo (m ((c : Thread nD τ).loc main_arg0)) (m ((c : Thread nD τ).loc main_arg1)) (m ((c : Thread nD τ).loc main_arg2))
    (m ((c : Thread nD τ).loc main_arg3)) (m ((c : Thread nD τ).loc main_arg4)) R e n

/-- The normalised row, of the arguments. -/
abbrev hAt (c : Dev nD) (R : Fin 512) : Fin 2048 → EReal :=
  hRow (m ((c : Thread nD τ).loc main_arg0)) (m ((c : Thread nD τ).loc main_arg1)) R

/-- One more block of hidden columns. -/
theorem part_at (c : Dev nD) (t : Fin cfg0.N) (R : Fin 512) (e : Fin 2048) :
    sumAt m c R e (t.val % 11) + part (hAt m c R) (fun k s => bwg m c t (ix2 k s)) (fun k s => bwu m c t (ix2 k s)) (fun s => bwd m c t (ix2 s e))
      = sumAt m c R e (t.val % 11 + 1) := by
  have hj : t.val % 11 < 11 := Nat.mod_lt _ (by omega)
  unfold sumAt sumTo
  rw [Finset.sum_range_succ, ← add_assoc]
  refine congrArg (fun z => rowOf (m ((c : Thread nD τ).loc main_arg0)) R e + ∑ j ∈ Finset.range (t.val % 11), partOf (m ((c : Thread nD τ).loc main_arg0))
    (m ((c : Thread nD τ).loc main_arg1)) (m ((c : Thread nD τ).loc main_arg2)) (m ((c : Thread nD τ).loc main_arg3))
    (m ((c : Thread nD τ).loc main_arg4)) R e j + z) ?_
  unfold partOf
  rw [dif_pos hj]
  have e1 : (fun (k : Fin 2048) (s : Fin 512) => bwg m c t (ix2 k s)) = _ := funext fun k => funext fun s => bwg_at m c t k s (by omega)
  have e2 : (fun (k : Fin 2048) (s : Fin 512) => bwu m c t (ix2 k s)) = _ := funext fun k => funext fun s => bwu_at m c t k s (by omega)
  have e3 : (fun (s : Fin 512) => bwd m c t (ix2 s e)) = _ := funext fun s => bwd_at m c t s e (by omega)
  rw [e1, e2, e3]

/-- The normalised rows of a first point. -/
theorem first_row (c : Dev nD) (t : Fin cfg0.N) (r : Fin 512) (h : t.val / 11 * 512 + r.val < 512) :
    nrm (fun k => bx m c t (ix2 r k)) (fun k => bg m c t (ix2 0 k)) = hAt m c ⟨t.val / 11 * 512 + r.val, h⟩ := by
  have e1 : (fun k => bx m c t (ix2 r k)) = _ := funext fun k => bx_at m c t r k h
  have e2 : (fun k => bg m c t (ix2 0 k)) = _ := funext fun k => bg_at m c t k
  rw [e1, e2]; rfl

/-- The state kept after point `n` of a block of rows, at one row: the normalised row, and the partial sums. -/
def Kept (c : Dev nD) (n : ℕ) (hn : n < cfg0.N) (r : Fin 512) (R : Fin 512) (j : ℕ) : Prop :=
  (∀ k, hb m c n hn (ix2 r k) = hAt m c R k) ∧ ∀ e, ob m c n hn (ix2 r e) = sumAt m c R e j

/-- The first point of a block of rows leaves the normalised rows and the first partial sum. -/
theorem kept_first (c : Dev nD) (t : Fin cfg0.N) (c0 : t.val % 11 = 0) (r : Fin 512) (h : t.val / 11 * 512 + r.val < 512) :
    Kept m c t.val t.isLt r ⟨t.val / 11 * 512 + r.val, h⟩ (t.val % 11 + 1) := by
  have hr := first_row m c t r h
  have c1 : ¬(1 ≤ t.val % 11 ∧ t.val % 11 ≤ 9) := by omega
  have c2 : ¬t.val % 11 = 10 := by omega
  refine ⟨fun k => ?_, fun e => ?_⟩
  · rw [hb_first m c t c0 c1 c2, hr]
  · rw [ob_first m c t c0 c1 c2, hr, bx_at m c t r e h, ← part_at m c t, c0]
    congr 1
    exact (add_zero _).symm

/-- A middle point adds its part. -/
theorem kept_middle (c : Dev nD) (t : Fin cfg0.N) (c0 : ¬t.val % 11 = 0) (c2 : ¬t.val % 11 = 10) (r : Fin 512) (R : Fin 512)
    (ih : Kept m c (t.val - 1) (Nat.lt_of_le_of_lt (Nat.sub_le _ _) t.isLt) r R (t.val % 11)) :
    Kept m c t.val t.isLt r R (t.val % 11 + 1) := by
  have c1 : 1 ≤ t.val % 11 ∧ t.val % 11 ≤ 9 := by omega
  refine ⟨fun k => ?_, fun e => ?_⟩
  · rw [hb_middle m c t c0 c1 c2]; exact ih.1 k
  · rw [ob_middle m c t c0 c1 c2, ← part_at m c t R e, ih.2 e]
    rw [show (fun k => hb m c (t.val - 1) (Nat.lt_of_le_of_lt (Nat.sub_le _ _) t.isLt) (ix2 r k)) = hAt m c R from funext ih.1]

/-- The point before one that is not the first of its block of rows. -/
theorem before (n : ℕ) (h : ¬n % 11 = 0) (R r : ℕ) (e : R = n / 11 * 512 + r) :
    n - 1 < n ∧ ¬(n - 1) % 11 = 10 ∧ R = (n - 1) / 11 * 512 + r ∧ (n - 1) % 11 + 1 = n % 11 := by omega

/-- Before the last point of a block of rows: the kept rows are the normalised ones, the output block holds the partial sums. -/
theorem sweep (c : Dev nD) (n : ℕ) : ∀ (hn : n < cfg0.N) (hl : ¬n % 11 = 10) (r : Fin 512) (R : Fin 512)
    (h : R.val = n / 11 * 512 + r.val), Kept m c n hn r R (n % 11 + 1) := by
  induction n using Nat.strong_induction_on with
  | _ n ih =>
    intro hn hl r R h
    by_cases c0 : n % 11 = 0
    · have h' : n / 11 * 512 + r.val < 512 := h ▸ R.isLt
      rw [show R = ⟨n / 11 * 512 + r.val, h'⟩ from Fin.ext h]
      exact kept_first m c ⟨n, hn⟩ c0 r h'
    · obtain ⟨p0, p1, p2, p3⟩ := before n c0 R.val r.val h
      have i := ih (n - 1) p0 (Nat.lt_of_le_of_lt (Nat.sub_le _ _) hn) p1 r R p2
      rw [p3] at i
      exact kept_middle m c ⟨n, hn⟩ c0 hl r R i

/-- The output block after the last point of a block of rows. -/
theorem last (c : Dev nD) (t : Fin cfg0.N) (hl : t.val % 11 = 10) (r : Fin 512) (e : Fin 2048) (R : Fin 512)
    (h : R.val = t.val / 11 * 512 + r.val) :
    ob m c t.val t.isLt (ix2 r e) = resAt m c R e := by
  obtain ⟨p0, p1, p2, p3⟩ := before t.val (by rw [hl]; decide) R.val r.val h
  have s := sweep m c (t.val - 1) (Nat.lt_of_le_of_lt (Nat.sub_le _ _) t.isLt) p1 r R p2
  rw [p3] at s
  rw [ob_last m c t (by rw [hl]; decide) (by rw [hl]; decide) hl,
    show (fun k => hb m c (t.val - 1) (Nat.lt_of_le_of_lt (Nat.sub_le _ _) t.isLt) (ix2 r k)) = hAt m c R from funext s.1]
  refine congr (congr (congrArg nrm (funext fun e => ?_)) (funext fun k => bf_at m c t k)) rfl
  rw [s.2 e, part_at m c t R e, hl]

/-- The result array after the run. -/
theorem final (c : Dev nD) : (dats m 0 c).arrAt 6 (cfgs 0).N
    = FfsRefIdeal.Mem.refT (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  refine (dats m 0 c).arrAt_eq_of_covers 6 _ (by decide +kernel) fun t hf y => ?_
  have hl := (flush0_6 t).mp hf
  blk_simp
  idx_vars y
  have ht : t.val < 11 := t.isLt
  rw [emb_o t _ _ (by omega), FfsRefIdeal.Mem.refT_at]
  rw [after0_6]
  exact last m c t hl y0 y1 _ rfl

end Cert.FfsIdeal.Mem

end
-- ==== Proof.FfsClaims.lean ====
/-
  The claims about the feed-forward call of the sample rows: frames, that idealizing rewrites nothing, and that the kernel's
  result is the reference's.
-/
module

public import proofs.«01_k».proof.Defs
public import proofs.«01_k».proof.Proof.Gen.Ffs.Frame
public import proofs.«01_k».proof.Proof.FfsValue
public import Idealize.ShloMosaic.Lib.Claim

@[expose] public section

set_option maxRecDepth 16384

noncomputable section

open Idealize.ShloMosaic Idealize.ShloMosaic.TcCoe Idealize.SL.Sem

namespace Cert.FfsProof

/-- The kernel over bits finishes, and leaves its arguments as they were. -/
theorem frame : Cert.quiescent_Ffs := fun m ρ _ => Cert.Ffs.Gen.frame m ρ

/-- The kernel over exact values finishes, and leaves its arguments as they were. -/
theorem frameIdeal : Cert.quiescent_FfsIdeal := fun m ρ _ => Cert.FfsIdeal.Gen.frame m ρ

/-- The reference finishes, and leaves its arguments as they were. -/
theorem frameRef : Cert.quiescent_FfsRefIdeal := by
  intro m ρ _
  exact (θ_run Cert.FfsRefIdeal.defs _ _).mono
    (fun r h => ⟨fun c => (h c).2, sem_eq_zero_of_no_sems (by decide) r.2⟩) (Cert.FfsRefIdeal.Value.run m ρ)

/-- Idealizing rewrites nothing in this program. -/
theorem preserves : Cert.preserves_Ffs_FfsIdeal := trivial

/-- From the same arguments the kernel's result is the reference's. -/
theorem algebraic : Cert.algebraic_FfsIdeal_FfsRefIdeal := by
  pair_intro
  · run_from Cert.FfsIdeal.Gen.run_main m g
  · run_from Cert.FfsRefIdeal.Value.run m' g'
    · obtain ⟨h0, h1, h2, h3, h4, h5⟩ := hagree c
      rw [Cert.FfsRefIdeal.Mem.res_eq m' c, h0, h1, h2, h3, h4, h5]
      exact (Cert.FfsIdeal.Mem.final m c).symm

end Cert.FfsProof

end
-- ==== Proof.lean ====
/-
  The claim: of every program the frames, what idealizing rewrites, and that the kernel's results are the reference's.
-/
module

public import proofs.«01_k».proof.Defs
public import proofs.«01_k».proof.Proof.FfnClaims
public import proofs.«01_k».proof.Proof.MkvClaims
public import proofs.«01_k».proof.Proof.MixClaims
public import proofs.«01_k».proof.Proof.FfsClaims
public import proofs.«01_k».proof.Proof.Gen.Pre_finite_mix
public import Idealize.ShloMosaic.Adequacy
public import Idealize.ShloMosaic.Init

@[expose] public section

noncomputable section

namespace Cert.Proof

open Idealize.ShloMosaic Idealize.SL.Sem

/-- Everything that is claimed. -/
theorem claim : Cert.Claim := ⟨Cert.Ffn.Gen.facts, Cert.FfnIdeal.Gen.facts, Cert.FfnRefIdeal.Gen.facts, Cert.Mkv.Gen.facts, Cert.MkvIdeal.Gen.facts, Cert.MkvRefIdeal.Gen.facts, Cert.Mix.Gen.facts, Cert.MixIdeal.Gen.facts, Cert.MixRefIdeal.Gen.facts, Cert.Ffs.Gen.facts, Cert.FfsIdeal.Gen.facts, Cert.FfsRefIdeal.Gen.facts, Cert.Pre_finite_mix.Gen.facts,
  Cert.FfnProof.frame, Cert.FfnProof.frameIdeal, Cert.FfnProof.frameRef, Cert.MkvProof.frame, Cert.MkvProof.frameIdeal, Cert.MkvProof.frameRef, Cert.MixProof.frame, Cert.MixProof.frameIdeal, Cert.MixProof.frameIdealPre, Cert.MixProof.frameRef, Cert.MixProof.frameRefPre, Cert.FfsProof.frame, Cert.FfsProof.frameIdeal, Cert.FfsProof.frameRef,
  Cert.FfnProof.preserves, Cert.FfnProof.algebraic, Cert.MkvProof.preserves, Cert.MkvProof.algebraic, Cert.MixProof.preserves, Cert.MixProof.algebraic, Cert.FfsProof.preserves, Cert.FfsProof.algebraic⟩

end Cert.Proof

end
